-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 [hPre_experts_named : Cert.Pre_experts_named.Facts] (m : (ℓ : Loc Cert.Kernel2.nD Cert.Kernel2.τ Cert.Kernel2.sig) → Buf (Elt Bits) ℓ) : Prop :=
  ∀ c : Dev Cert.Kernel2.nD,
    (Cert.Pre_experts_named.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_experts_named : Cert.Pre_experts_named.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_named.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_experts_named [hPre_experts_named : Cert.Pre_experts_named.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_named.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))
      ∧ r.2.sem = fun _ => 0)

def quiescent_Kernel2 [hKernel2 : Cert.Kernel2.Facts] [hPre_experts_named : Cert.Pre_experts_named.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_experts_named : Cert.Pre_experts_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_experts_named [hReference2Ideal : Cert.Reference2Ideal.Facts] [hPre_experts_named : Cert.Pre_experts_named.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_experts_named m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v22)) (v2 : (c : Dev Cert.KernelIdeal.nD) → Buf (Elt Ideal) ((c.tc : Thread Cert.KernelIdeal.nD Cert.KernelIdeal.τ).loc Cert.KernelIdeal.main_v20_0)) (v3 : (c : Dev Cert.KernelIdeal.nD) → Buf (Elt Ideal) ((c.tc : Thread Cert.KernelIdeal.nD Cert.KernelIdeal.τ).loc Cert.KernelIdeal.main_v20_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_v20_0) = v2 c
          ∧ r.2.mem ((c.tc : Thread Cert.KernelIdeal.nD Cert.KernelIdeal.τ).loc Cert.KernelIdeal.main_v20_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_v170) = v1 c
          ∧ r.2.mem ((c.tc : Thread Cert.ReferenceIdeal.nD Cert.ReferenceIdeal.τ).loc Cert.ReferenceIdeal.main_v171) = v2 c
          ∧ r.2.mem ((c.tc : Thread Cert.ReferenceIdeal.nD Cert.ReferenceIdeal.τ).loc Cert.ReferenceIdeal.main_v186) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def preserves_Kernel2_Kernel2Ideal : Prop :=
  True

def algebraic_Kernel2Ideal_Reference2Ideal [hKernel2Ideal : Cert.Kernel2Ideal.Facts] [hReference2Ideal : Cert.Reference2Ideal.Facts] [hPre_experts_named : Cert.Pre_experts_named.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_experts_named : Cert.Pre_experts_named.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2) (hPre_experts_named := hPre_experts_named)
    ∧ quiescent_Kernel2Ideal (hKernel2Ideal := hKernel2Ideal) (hPre_experts_named := hPre_experts_named)
    ∧ quiescent_Reference2Ideal (hReference2Ideal := hReference2Ideal)
    ∧ quiescent_Reference2Ideal_pre_experts_named (hReference2Ideal := hReference2Ideal) (hPre_experts_named := hPre_experts_named)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal) (hPre_experts_named := hPre_experts_named)
-- ==== Pre_experts_named.lean ====
abbrev S43008x1024 : Shape := ⟨2, ![43008, 1024]⟩
abbrev S168 : Shape := ⟨1, ![168]⟩
abbrev S1 : Shape := ⟨1, ![1]⟩
abbrev S32x1024x512 : Shape := ⟨3, ![32, 1024, 512]⟩
abbrev S32x512x1024 : Shape := ⟨3, ![32, 512, 1024]⟩
abbrev S_ : Shape := ⟨0, ![]⟩

class Facts : Prop where
  bcast_S_S168 : S_.BroadcastsInDim S168 (![] : Fin 0 → Fin S168.rank)

variable [Facts]

def fn {F : FTy → Type} [FloatOps F] (main_arg0 : FVec F S43008x1024 .f32) (main_arg1 : IVec S168 32) (main_arg2 : IVec S1 32) (main_arg3 : FVec F S32x1024x512 .f32) (main_arg4 : FVec F S32x1024x512 .f32) (main_arg5 : FVec F S32x512x1024 .f32) : IVec S168 1 :=
  let main_c : IVec S_ 32 := constantI S_ 32 0#32
  let main_v0 : IVec S168 32 := broadcastInDim S168 ![] bcast_S_S168 main_c
  let main_v1 : IVec S168 1 := cmpi .sge main_arg1 main_v0
  let main_c_0 : IVec S_ 32 := constantI S_ 32 31#32
  let main_v2 : IVec S168 32 := broadcastInDim S168 ![] bcast_S_S168 main_c_0
  let main_v3 : IVec S168 1 := cmpi .sle main_arg1 main_v2
  let main_v4 : IVec S168 1 := andi main_v1 main_v3
  main_v4
-- ==== Kernel.lean ====
abbrev S128x1x1024 : Shape := ⟨3, ![128, 1, 1024]⟩
abbrev S1x128x8x128x128 : Shape := ⟨5, ![1, 128, 8, 128, 128]⟩
abbrev S1x1024 : Shape := ⟨2, ![1, 1024]⟩
abbrev S1x1024x7168 : Shape := ⟨3, ![1, 1024, 7168]⟩
abbrev S2x1024 : Shape := ⟨2, ![2, 1024]⟩
abbrev S1x128x30x512 : Shape := ⟨4, ![1, 128, 30, 512]⟩
abbrev S1x2048 : Shape := ⟨2, ![1, 2048]⟩
abbrev S1x31x512 : Shape := ⟨3, ![1, 31, 512]⟩
abbrev S1x512 : Shape := ⟨2, ![1, 512]⟩
abbrev S1x512x1024 : Shape := ⟨3, ![1, 512, 1024]⟩
abbrev S1x1024x1024 : Shape := ⟨3, ![1, 1024, 1024]⟩
abbrev S1x1024x4 : Shape := ⟨3, ![1, 1024, 4]⟩
abbrev S1x1024x32 : Shape := ⟨3, ![1, 1024, 32]⟩
abbrev S1024x4 : Shape := ⟨2, ![1024, 4]⟩
abbrev S1024x32 : Shape := ⟨2, ![1024, 32]⟩
abbrev S_ : Shape := ⟨0, ![]⟩
abbrev S1024x92 : Shape := ⟨2, ![1024, 92]⟩
abbrev S1024x128 : Shape := ⟨2, ![1024, 128]⟩
abbrev S1024x7168 : Shape := ⟨2, ![1024, 7168]⟩
abbrev S31x512 : Shape := ⟨2, ![31, 512]⟩
abbrev S512x1024 : Shape := ⟨2, ![512, 1024]⟩
abbrev S1024x1024 : Shape := ⟨2, ![1024, 1024]⟩
abbrev S128x1024 : Shape := ⟨2, ![128, 1024]⟩
abbrev S128x7168 : Shape := ⟨2, ![128, 7168]⟩
abbrev S128 : Shape := ⟨1, ![128]⟩
abbrev S128x1 : Shape := ⟨2, ![128, 1]⟩
abbrev S128x8x128x128 : Shape := ⟨4, ![128, 8, 128, 128]⟩
abbrev S8x1024 : Shape := ⟨2, ![8, 1024]⟩
abbrev S8x8x128x128 : Shape := ⟨4, ![8, 8, 128, 128]⟩
abbrev S1024 : Shape := ⟨1, ![1024]⟩
abbrev S8x128 : Shape := ⟨2, ![8, 128]⟩
abbrev S128x128 : Shape := ⟨2, ![128, 128]⟩
abbrev S1x1x128x128 : Shape := ⟨4, ![1, 1, 128, 128]⟩
abbrev S1x128 : Shape := ⟨2, ![1, 128]⟩
abbrev S8 : Shape := ⟨1, ![8]⟩
abbrev S8x1 : Shape := ⟨2, ![8, 1]⟩
abbrev S128x30x512 : Shape := ⟨3, ![128, 30, 512]⟩
abbrev S128x15360 : Shape := ⟨2, ![128, 15360]⟩
abbrev S128x512 : Shape := ⟨2, ![128, 512]⟩
abbrev S128x14848 : Shape := ⟨2, ![128, 14848]⟩

abbrev nBuf : Space → Nat
  | .hbm => 46
  | .vmem => 36
  | .smem => 0
  | _ => 0

abbrev bufTy : (tb : Table) → Fin (tcTables nBuf tb) → BufTy
  | .hbm, ⟨0, _⟩ => ⟨S128x1x1024, .f32⟩
  | .hbm, ⟨1, _⟩ => ⟨S1x128x8x128x128, .f32⟩
  | .hbm, ⟨2, _⟩ => ⟨S1x1024, .f32⟩
  | .hbm, ⟨3, _⟩ => ⟨S1x1024x7168, .f32⟩
  | .hbm, ⟨4, _⟩ => ⟨S2x1024, .f32⟩
  | .hbm, ⟨5, _⟩ => ⟨S1x1024, .f32⟩
  | .hbm, ⟨6, _⟩ => ⟨S1x128x30x512, .f32⟩
  | .hbm, ⟨7, _⟩ => ⟨S1x2048, .f32⟩
  | .hbm, ⟨8, _⟩ => ⟨S1x31x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1x512x1024, .f32⟩
  | .hbm, ⟨13, _⟩ => ⟨S1x1024x1024, .f32⟩
  | .hbm, ⟨14, _⟩ => ⟨S1x1024x1024, .f32⟩
  | .hbm, ⟨15, _⟩ => ⟨S1x1024, .f32⟩
  | .hbm, ⟨16, _⟩ => ⟨S1x1024x4, .f32⟩
  | .hbm, ⟨17, _⟩ => ⟨S1x1024x32, .f32⟩
  | .hbm, ⟨18, _⟩ => ⟨S1024x4, .f32⟩
  | .hbm, ⟨19, _⟩ => ⟨S1024x32, .f32⟩
  | .hbm, ⟨20, _⟩ => ⟨S_, .f32⟩
  | .hbm, ⟨21, _⟩ => ⟨S1024x92, .f32⟩
  | .hbm, ⟨22, _⟩ => ⟨S1024x128, .f32⟩
  | .hbm, ⟨23, _⟩ => ⟨S1024x128, .bf16⟩
  | .hbm, ⟨24, _⟩ => ⟨S1024x7168, .f32⟩
  | .hbm, ⟨25, _⟩ => ⟨S1024x7168, .bf16⟩
  | .hbm, ⟨26, _⟩ => ⟨S31x512, .f32⟩
  | .hbm, ⟨27, _⟩ => ⟨S512x1024, .f32⟩
  | .hbm, ⟨28, _⟩ => ⟨S512x1024, .bf16⟩
  | .hbm, ⟨29, _⟩ => ⟨S1024x1024, .f32⟩
  | .hbm, ⟨30, _⟩ => ⟨S1024x1024, .bf16⟩
  | .hbm, ⟨31, _⟩ => ⟨S1024x1024, .f32⟩
  | .hbm, ⟨32, _⟩ => ⟨S1024x1024, .bf16⟩
  | .hbm, ⟨33, _⟩ => ⟨S128x1024, .f32⟩
  | .hbm, ⟨34, _⟩ => ⟨S128x7168, .f32⟩
  | .hbm, ⟨35, _⟩ => ⟨S128x8x128x128, .f32⟩
  | .hbm, ⟨36, _⟩ => ⟨S128x8x128x128, .f32⟩
  | .hbm, ⟨37, _⟩ => ⟨S128x1024, .f32⟩
  | .hbm, ⟨38, _⟩ => ⟨S128x30x512, .f32⟩
  | .hbm, ⟨39, _⟩ => ⟨S128x15360, .f32⟩
  | .hbm, ⟨40, _⟩ => ⟨S128x1024, .f32⟩
  | .hbm, ⟨41, _⟩ => ⟨S128x1024, .f32⟩
  | .hbm, ⟨42, _⟩ => ⟨S128x128, .f32⟩
  | .hbm, ⟨43, _⟩ => ⟨S128x15360, .f32⟩
  | .hbm, ⟨44, _⟩ => ⟨S1x128x8x128x128, .f32⟩
  | .hbm, ⟨45, _⟩ => ⟨S1x128x30x512, .f32⟩
  | .local _ .vmem, ⟨0, _⟩ => ⟨S128x1024, .f32⟩
  | .local _ .vmem, ⟨1, _⟩ => ⟨S1x1024, .f32⟩
  | .local _ .vmem, ⟨2, _⟩ => ⟨S1024x7168, .bf16⟩
  | .local _ .vmem, ⟨3, _⟩ => ⟨S128x7168, .f32⟩
  | .local _ .vmem, ⟨4, _⟩ => ⟨S8x1024, .f32⟩
  | .local _ .vmem, ⟨5, _⟩ => ⟨S8x1024, .f32⟩
  | .local _ .vmem, ⟨6, _⟩ => ⟨S8x1024, .f32⟩
  | .local _ .vmem, ⟨7, _⟩ => ⟨S8x1024, .f32⟩
  | .local _ .vmem, ⟨8, _⟩ => ⟨S8x1024, .f32⟩
  | .local _ .vmem, ⟨9, _⟩ => ⟨S8x1024, .f32⟩
  | .local _ .vmem, ⟨10, _⟩ => ⟨S2x1024, .f32⟩
  | .local _ .vmem, ⟨11, _⟩ => ⟨S1x1024, .f32⟩
  | .local _ .vmem, ⟨12, _⟩ => ⟨S8x8x128x128, .f32⟩
  | .local _ .vmem, ⟨13, _⟩ => ⟨S8x8x128x128, .f32⟩
  | .local _ .vmem, ⟨14, _⟩ => ⟨S8x8x128x128, .f32⟩
  | .local _ .vmem, ⟨15, _⟩ => ⟨S8x8x128x128, .f32⟩
  | .local _ .vmem, ⟨16, _⟩ => ⟨S8x1024, .f32⟩
  | .local _ .vmem, ⟨17, _⟩ => ⟨S8x1024, .f32⟩
  | .local _ .vmem, ⟨18, _⟩ => ⟨S128x1024, .f32⟩
  | .local _ .vmem, ⟨19, _⟩ => ⟨S128x7168, .f32⟩
  | .local _ .vmem, ⟨20, _⟩ => ⟨S128x1024, .f32⟩
  | .local _ .vmem, ⟨21, _⟩ => ⟨S128x15360, .f32⟩
  | .local _ .vmem, ⟨22, _⟩ => ⟨S1x2048, .f32⟩
  | .local _ .vmem, ⟨23, _⟩ => ⟨S31x512, .f32⟩
  | .local _ .vmem, ⟨24, _⟩ => ⟨S1x512, .f32⟩
  | .local _ .vmem, ⟨25, _⟩ => ⟨S1x512, .f32⟩
  | .local _ .vmem, ⟨26, _⟩ => ⟨S1x512, .f32⟩
  | .local _ .vmem, ⟨27, _⟩ => ⟨S512x1024, .bf16⟩
  | .local _ .vmem, ⟨28, _⟩ => ⟨S1024x1024, .bf16⟩
  | .local _ .vmem, ⟨29, _⟩ => ⟨S1024x1024, .bf16⟩
  | .local _ .vmem, ⟨30, _⟩ => ⟨S1x1024, .f32⟩
  | .local _ .vmem, ⟨31, _⟩ => ⟨S1024x128, .bf16⟩
  | .local _ .vmem, ⟨32, _⟩ => ⟨S128x1024, .f32⟩
  | .local _ .vmem, ⟨33, _⟩ => ⟨S128x1024, .f32⟩
  | .local _ .vmem, ⟨34, _⟩ => ⟨S128x128, .f32⟩
  | .local _ .vmem, ⟨35, _⟩ => ⟨S128x15360, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_cst : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17_0 : Ref sig .tc := ⟨.hbm, 36, rfl⟩
abbrev main_v17_1 : Ref sig .tc := ⟨.hbm, 37, rfl⟩
abbrev main_v18 : Ref sig .tc := ⟨.hbm, 38, rfl⟩
abbrev main_v19 : Ref sig .tc := ⟨.hbm, 39, rfl⟩
abbrev main_v20_0 : Ref sig .tc := ⟨.hbm, 40, rfl⟩
abbrev main_v20_1 : Ref sig .tc := ⟨.hbm, 41, rfl⟩
abbrev main_v20_2 : Ref sig .tc := ⟨.hbm, 42, rfl⟩
abbrev main_v20_3 : Ref sig .tc := ⟨.hbm, 43, rfl⟩
abbrev main_v21 : Ref sig .tc := ⟨.hbm, 44, rfl⟩
abbrev main_v22 : Ref sig .tc := ⟨.hbm, 45, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc2_stg7_0 : Ref sig .tc := ⟨.vmem, 25, rfl⟩
abbrev cc2_stg8_0 : Ref sig .tc := ⟨.vmem, 26, rfl⟩
abbrev cc2_stg9_0 : Ref sig .tc := ⟨.vmem, 27, rfl⟩
abbrev cc2_stg10_0 : Ref sig .tc := ⟨.vmem, 28, rfl⟩
abbrev cc2_stg11_0 : Ref sig .tc := ⟨.vmem, 29, rfl⟩
abbrev cc2_stg12_0 : Ref sig .tc := ⟨.vmem, 30, rfl⟩
abbrev cc2_stg13_0 : Ref sig .tc := ⟨.vmem, 31, rfl⟩
abbrev cc2_stg14_0 : Ref sig .tc := ⟨.vmem, 32, rfl⟩
abbrev cc2_stg15_0 : Ref sig .tc := ⟨.vmem, 33, rfl⟩
abbrev cc2_stg16_0 : Ref sig .tc := ⟨.vmem, 34, rfl⟩
abbrev cc2_stg17_0 : Ref sig .tc := ⟨.vmem, 35, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17
abbrev cc2_sem0_0 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem7_0 : DmaSem sig := 25
abbrev cc2_sem8_0 : DmaSem sig := 26
abbrev cc2_sem9_0 : DmaSem sig := 27
abbrev cc2_sem10_0 : DmaSem sig := 28
abbrev cc2_sem11_0 : DmaSem sig := 29
abbrev cc2_sem12_0 : DmaSem sig := 30
abbrev cc2_sem13_0 : DmaSem sig := 31
abbrev cc2_sem14_0 : DmaSem sig := 32
abbrev cc2_sem15_0 : DmaSem sig := 33
abbrev cc2_sem16_0 : DmaSem sig := 34
abbrev cc2_sem17_0 : DmaSem sig := 35

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x7168 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_1 (i : grid1.Coords) : Fin 2 → Nat :=
  let arg0 : BitVec 32 := BitVec.ofNat 32 (i 0).val
  let c2_i32 : BitVec 32 := 2#32
  let c0_i32 : BitVec 32 := 0#32
  ![arg0.toNat, c2_i32.toNat]

def cc1_transform_2 (i : grid1.Coords) : Fin 2 → Nat :=
  let arg0 : BitVec 32 := BitVec.ofNat 32 (i 0).val
  let c3_i32 : BitVec 32 := 3#32
  let c0_i32 : BitVec 32 := 0#32
  ![arg0.toNat, c3_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S8x8x128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x8x128x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S8x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S128x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x7168 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x15360 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S31x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x512 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S512x1024 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1024x1024 .bf16 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S1024x1024 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S1x1024 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 1 → Memref sig .tc .vmem S1024x128 .bf16 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false]

abbrev stage2_14 : Fin 1 → Memref sig .tc .vmem S128x1024 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false]

abbrev stage2_15 : Fin 1 → Memref sig .tc .vmem S128x1024 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false]

abbrev stage2_16 : Fin 1 → Memref sig .tc .vmem S128x128 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false]

abbrev stage2_17 : Fin 1 → Memref sig .tc .vmem S128x15360 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false]
-- ==== ReferenceIdeal.lean ====
abbrev S128x1x1024 : Shape := ⟨3, ![128, 1, 1024]⟩
abbrev S1x128x8x128x128 : Shape := ⟨5, ![1, 128, 8, 128, 128]⟩
abbrev S1x1024 : Shape := ⟨2, ![1, 1024]⟩
abbrev S1x1024x7168 : Shape := ⟨3, ![1, 1024, 7168]⟩
abbrev S2x1024 : Shape := ⟨2, ![2, 1024]⟩
abbrev S1x128x30x512 : Shape := ⟨4, ![1, 128, 30, 512]⟩
abbrev S1x2048 : Shape := ⟨2, ![1, 2048]⟩
abbrev S1x31x512 : Shape := ⟨3, ![1, 31, 512]⟩
abbrev S1x512 : Shape := ⟨2, ![1, 512]⟩
abbrev S1x512x1024 : Shape := ⟨3, ![1, 512, 1024]⟩
abbrev S1x1024x1024 : Shape := ⟨3, ![1, 1024, 1024]⟩
abbrev S1x1024x4 : Shape := ⟨3, ![1, 1024, 4]⟩
abbrev S1x1024x32 : Shape := ⟨3, ![1, 1024, 32]⟩
abbrev S_ : Shape := ⟨0, ![]⟩
abbrev S1024 : Shape := ⟨1, ![1024]⟩
abbrev S128x1 : Shape := ⟨2, ![128, 1]⟩
abbrev S128x1x1 : Shape := ⟨3, ![128, 1, 1]⟩
abbrev S1x1x1024 : Shape := ⟨3, ![1, 1, 1024]⟩
abbrev S1024x7168 : Shape := ⟨2, ![1024, 7168]⟩
abbrev S128x1x7168 : Shape := ⟨3, ![128, 1, 7168]⟩
abbrev S128x1x512 : Shape := ⟨3, ![128, 1, 512]⟩
abbrev S128x30x512 : Shape := ⟨3, ![128, 30, 512]⟩
abbrev S128x31x512 : Shape := ⟨3, ![128, 31, 512]⟩
abbrev S31x512 : Shape := ⟨2, ![31, 512]⟩
abbrev S128x512 : Shape := ⟨2, ![128, 512]⟩
abbrev S512 : Shape := ⟨1, ![512]⟩
abbrev S1x1x512 : Shape := ⟨3, ![1, 1, 512]⟩
abbrev S512x1024 : Shape := ⟨2, ![512, 1024]⟩
abbrev S128x8x128 : Shape := ⟨3, ![128, 8, 128]⟩
abbrev S128x8x128x1 : Shape := ⟨4, ![128, 8, 128, 1]⟩
abbrev S128x8x1x128 : Shape := ⟨4, ![128, 8, 1, 128]⟩
abbrev S128x8x128x128 : Shape := ⟨4, ![128, 8, 128, 128]⟩
abbrev S8x128 : Shape := ⟨2, ![8, 128]⟩
abbrev S128x8 : Shape := ⟨2, ![128, 8]⟩
abbrev S128x8x1 : Shape := ⟨3, ![128, 8, 1]⟩
abbrev S1x8x128 : Shape := ⟨3, ![1, 8, 128]⟩
abbrev S1024x1024 : Shape := ⟨2, ![1024, 1024]⟩
abbrev S128x1024 : Shape := ⟨2, ![128, 1024]⟩

abbrev nBuf : Space → Nat
  | .hbm => 260
  | .vmem => 0
  | .smem => 0
  | _ => 0

abbrev hbmTy0_0 (i : Nat) : BufTy := match i % 128 with
  | 0 => ⟨S128x1x1024, .f32⟩
  | 1 => ⟨S1x128x8x128x128, .f32⟩
  | 2 => ⟨S1x1024, .f32⟩
  | 3 => ⟨S1x1024x7168, .f32⟩
  | 4 => ⟨S2x1024, .f32⟩
  | 5 => ⟨S1x1024, .f32⟩
  | 6 => ⟨S1x128x30x512, .f32⟩
  | 7 => ⟨S1x2048, .f32⟩
  | 8 => ⟨S1x31x512, .f32⟩
  | 9 => ⟨S1x512, .f32⟩
  | 10 => ⟨S1x512, .f32⟩
  | 11 => ⟨S1x512, .f32⟩
  | 12 => ⟨S1x512x1024, .f32⟩
  | 13 => ⟨S1x1024x1024, .f32⟩
  | 14 => ⟨S1x1024x1024, .f32⟩
  | 15 => ⟨S1x1024, .f32⟩
  | 16 => ⟨S1x1024x4, .f32⟩
  | 17 => ⟨S1x1024x32, .f32⟩
  | 18 => ⟨S_, .f32⟩
  | 19 => ⟨S1024, .f32⟩
  | 20 => ⟨S_, .f32⟩
  | 21 => ⟨S1024, .f32⟩
  | 22 => ⟨S1024, .f32⟩
  | 23 => ⟨S1x1024, .f32⟩
  | 24 => ⟨S2x1024, .f32⟩
  | 25 => ⟨S2x1024, .f32⟩
  | 26 => ⟨S2x1024, .f32⟩
  | 27 => ⟨S_, .f32⟩
  | 28 => ⟨S1024, .f32⟩
  | 29 => ⟨S1x1024, .f32⟩
  | 30 => ⟨S2x1024, .f32⟩
  | 31 => ⟨S2x1024, .f32⟩
  | 32 => ⟨S_, .f32⟩
  | 33 => ⟨S_, .f32⟩
  | 34 => ⟨S2x1024, .f32⟩
  | 35 => ⟨S1x1024, .f32⟩
  | 36 => ⟨S1024, .f32⟩
  | 37 => ⟨S1024, .f32⟩
  | 38 => ⟨S128x1x1024, .f32⟩
  | 39 => ⟨S_, .f32⟩
  | 40 => ⟨S128x1, .f32⟩
  | 41 => ⟨S128x1x1, .f32⟩
  | 42 => ⟨S_, .f32⟩
  | 43 => ⟨S128x1x1, .f32⟩
  | 44 => ⟨S128x1x1, .f32⟩
  | 45 => ⟨S_, .f32⟩
  | 46 => ⟨S128x1x1, .f32⟩
  | 47 => ⟨S128x1x1, .f32⟩
  | 48 => ⟨S128x1x1, .f32⟩
  | 49 => ⟨S128x1x1024, .f32⟩
  | 50 => ⟨S128x1x1024, .f32⟩
  | 51 => ⟨S1x1x1024, .f32⟩
  | 52 => ⟨S128x1x1024, .f32⟩
  | 53 => ⟨S128x1x1024, .f32⟩
  | 54 => ⟨S1024x7168, .f32⟩
  | 55 => ⟨S128x1x7168, .f32⟩
  | 56 => ⟨S128x1x512, .f32⟩
  | 57 => ⟨S128x1x512, .f32⟩
  | 58 => ⟨S128x1x1024, .f32⟩
  | 59 => ⟨S128x1x1024, .f32⟩
  | 60 => ⟨S128x1x1024, .f32⟩
  | 61 => ⟨S128x1x1024, .f32⟩
  | 62 => ⟨S128x1x1024, .f32⟩
  | 63 => ⟨S128x1x1024, .f32⟩
  | 64 => ⟨S128x1x512, .f32⟩
  | 65 => ⟨S128x1x512, .f32⟩
  | 66 => ⟨S_, .f32⟩
  | 67 => ⟨S128x1x512, .f32⟩
  | 68 => ⟨S128x1x512, .f32⟩
  | 69 => ⟨S_, .f32⟩
  | 70 => ⟨S128x1x512, .f32⟩
  | 71 => ⟨S128x1x512, .f32⟩
  | 72 => ⟨S128x1x512, .f32⟩
  | 73 => ⟨S128x30x512, .f32⟩
  | 74 => ⟨S128x31x512, .f32⟩
  | 75 => ⟨S31x512, .f32⟩
  | 76 => ⟨S1x31x512, .f32⟩
  | 77 => ⟨S128x31x512, .f32⟩
  | 78 => ⟨S128x31x512, .f32⟩
  | 79 => ⟨S_, .f32⟩
  | 80 => ⟨S128x512, .f32⟩
  | 81 => ⟨S128x1x512, .f32⟩
  | 82 => ⟨S512, .f32⟩
  | 83 => ⟨S1x1x512, .f32⟩
  | 84 => ⟨S128x1x512, .f32⟩
  | 85 => ⟨S128x1x512, .f32⟩
  | 86 => ⟨S_, .f32⟩
  | 87 => ⟨S128x1, .f32⟩
  | 88 => ⟨S128x1x1, .f32⟩
  | 89 => ⟨S_, .f32⟩
  | 90 => ⟨S128x1x1, .f32⟩
  | 91 => ⟨S128x1x1, .f32⟩
  | 92 => ⟨S128x1x512, .f32⟩
  | 93 => ⟨S128x1x512, .f32⟩
  | 94 => ⟨S128x1x512, .f32⟩
  | 95 => ⟨S_, .f32⟩
  | 96 => ⟨S128x1, .f32⟩
  | 97 => ⟨S128x1x1, .f32⟩
  | 98 => ⟨S_, .f32⟩
  | 99 => ⟨S128x1x1, .f32⟩
  | 100 => ⟨S128x1x1, .f32⟩
  | 101 => ⟨S128x1x512, .f32⟩
  | 102 => ⟨S128x1x512, .f32⟩
  | 103 => ⟨S_, .f32⟩
  | 104 => ⟨S128x1x1, .f32⟩
  | 105 => ⟨S128x1x1, .f32⟩
  | 106 => ⟨S128x1x1, .f32⟩
  | 107 => ⟨S128x1x512, .f32⟩
  | 108 => ⟨S128x1x512, .f32⟩
  | 109 => ⟨S512, .f32⟩
  | 110 => ⟨S1x1x512, .f32⟩
  | 111 => ⟨S128x1x512, .f32⟩
  | 112 => ⟨S128x1x512, .f32⟩
  | 113 => ⟨S512, .f32⟩
  | 114 => ⟨S1x1x512, .f32⟩
  | 115 => ⟨S128x1x512, .f32⟩
  | 116 => ⟨S128x1x512, .f32⟩
  | 117 => ⟨S128x1x512, .f32⟩
  | 118 => ⟨S128x1x512, .f32⟩
  | 119 => ⟨S_, .f32⟩
  | 120 => ⟨S128x1x512, .f32⟩
  | 121 => ⟨S128x1x512, .f32⟩
  | 122 => ⟨S_, .f32⟩
  | 123 => ⟨S128x1x512, .f32⟩
  | 124 => ⟨S128x1x512, .f32⟩
  | 125 => ⟨S128x1x512, .f32⟩
  | 126 => ⟨S512x1024, .f32⟩
  | 127 => ⟨S128x1x1024, .f32⟩
  | _ => ⟨S128x1x1024, .f32⟩

abbrev hbmTy0_1 (i : Nat) : BufTy := match i % 128 with
  | 0 => ⟨S128x1x1024, .f32⟩
  | 1 => ⟨S128x1x1024, .f32⟩
  | 2 => ⟨S_, .f32⟩
  | 3 => ⟨S128x1x1024, .f32⟩
  | 4 => ⟨S128x1x1024, .f32⟩
  | 5 => ⟨S_, .f32⟩
  | 6 => ⟨S128x1x1024, .f32⟩
  | 7 => ⟨S128x1x1024, .f32⟩
  | 8 => ⟨S128x1x1024, .f32⟩
  | 9 => ⟨S_, .f32⟩
  | 10 => ⟨S128x1x1024, .f32⟩
  | 11 => ⟨S128x1x1024, .f32⟩
  | 12 => ⟨S_, .f32⟩
  | 13 => ⟨S1024, .f32⟩
  | 14 => ⟨S1024, .f32⟩
  | 15 => ⟨S128x1x1024, .f32⟩
  | 16 => ⟨S128x1x1024, .f32⟩
  | 17 => ⟨S_, .f32⟩
  | 18 => ⟨S128x1x1024, .f32⟩
  | 19 => ⟨S128x1x1024, .f32⟩
  | 20 => ⟨S_, .f32⟩
  | 21 => ⟨S128x1x1024, .f32⟩
  | 22 => ⟨S128x1x1024, .f32⟩
  | 23 => ⟨S1x1x1024, .f32⟩
  | 24 => ⟨S128x1x1024, .f32⟩
  | 25 => ⟨S128x1x1024, .f32⟩
  | 26 => ⟨S1x1x1024, .f32⟩
  | 27 => ⟨S128x1x1024, .f32⟩
  | 28 => ⟨S128x1x1024, .f32⟩
  | 29 => ⟨S_, .f32⟩
  | 30 => ⟨S128x1x1024, .f32⟩
  | 31 => ⟨S128x1x1024, .f32⟩
  | 32 => ⟨S128x8x128, .f32⟩
  | 33 => ⟨S128x8x128x1, .f32⟩
  | 34 => ⟨S128x8x128, .f32⟩
  | 35 => ⟨S128x8x1x128, .f32⟩
  | 36 => ⟨S128x8x128x128, .f32⟩
  | 37 => ⟨S128x8x128x128, .f32⟩
  | 38 => ⟨S128x8x128x128, .f32⟩
  | 39 => ⟨S128x8x128, .f32⟩
  | 40 => ⟨S128x8x128x1, .f32⟩
  | 41 => ⟨S128x8x128x128, .f32⟩
  | 42 => ⟨S128x8x128x128, .f32⟩
  | 43 => ⟨S128x8x128x128, .f32⟩
  | 44 => ⟨S128x8x128x128, .f32⟩
  | 45 => ⟨S128x8x128, .f32⟩
  | 46 => ⟨S128x8x128, .f32⟩
  | 47 => ⟨S1024, .f32⟩
  | 48 => ⟨S8x128, .f32⟩
  | 49 => ⟨S128x8x128, .f32⟩
  | 50 => ⟨S_, .f32⟩
  | 51 => ⟨S128x8, .f32⟩
  | 52 => ⟨S128x8x1, .f32⟩
  | 53 => ⟨S_, .f32⟩
  | 54 => ⟨S128x8x1, .f32⟩
  | 55 => ⟨S128x8x1, .f32⟩
  | 56 => ⟨S_, .f32⟩
  | 57 => ⟨S128x8x1, .f32⟩
  | 58 => ⟨S128x8x1, .f32⟩
  | 59 => ⟨S128x8x1, .f32⟩
  | 60 => ⟨S128x8x128, .f32⟩
  | 61 => ⟨S128x8x128, .f32⟩
  | 62 => ⟨S1x8x128, .f32⟩
  | 63 => ⟨S128x8x128, .f32⟩
  | 64 => ⟨S128x8x128, .f32⟩
  | 65 => ⟨S128x1x1024, .f32⟩
  | 66 => ⟨S128x1x1024, .f32⟩
  | 67 => ⟨S128x1x1024, .f32⟩
  | 68 => ⟨S_, .f32⟩
  | 69 => ⟨S128x1x1024, .f32⟩
  | 70 => ⟨S128x1x1024, .f32⟩
  | 71 => ⟨S_, .f32⟩
  | 72 => ⟨S128x1x1024, .f32⟩
  | 73 => ⟨S128x1x1024, .f32⟩
  | 74 => ⟨S128x1x1024, .f32⟩
  | 75 => ⟨S128x1x1024, .f32⟩
  | 76 => ⟨S1024x1024, .f32⟩
  | 77 => ⟨S128x1x1024, .f32⟩
  | 78 => ⟨S1x1024, .f32⟩
  | 79 => ⟨S1024, .f32⟩
  | 80 => ⟨S1x1x1024, .f32⟩
  | 81 => ⟨S128x1x1024, .f32⟩
  | 82 => ⟨S128x1x1024, .f32⟩
  | 83 => ⟨S128x1x1024, .f32⟩
  | 84 => ⟨S128x1x1024, .f32⟩
  | 85 => ⟨S_, .f32⟩
  | 86 => ⟨S128x1x1024, .f32⟩
  | 87 => ⟨S128x1x1024, .f32⟩
  | 88 => ⟨S_, .f32⟩
  | 89 => ⟨S128x1x1024, .f32⟩
  | 90 => ⟨S128x1x1024, .f32⟩
  | 91 => ⟨S128x1x1024, .f32⟩
  | 92 => ⟨S1x1024, .f32⟩
  | 93 => ⟨S1024, .f32⟩
  | 94 => ⟨S1x1x1024, .f32⟩
  | 95 => ⟨S128x1x1024, .f32⟩
  | 96 => ⟨S128x1x1024, .f32⟩
  | 97 => ⟨S128x1x1024, .f32⟩
  | 98 => ⟨S128x1x1024, .f32⟩
  | 99 => ⟨S_, .f32⟩
  | 100 => ⟨S128x1x1024, .f32⟩
  | 101 => ⟨S128x1x1024, .f32⟩
  | 102 => ⟨S_, .f32⟩
  | 103 => ⟨S128x1x1024, .f32⟩
  | 104 => ⟨S128x1x1024, .f32⟩
  | 105 => ⟨S128x1x1024, .f32⟩
  | 106 => ⟨S128x1x1024, .f32⟩
  | 107 => ⟨S1024x1024, .f32⟩
  | 108 => ⟨S128x1x1024, .f32⟩
  | 109 => ⟨S128x1x1024, .f32⟩
  | 110 => ⟨S1x128x8x128x128, .f32⟩
  | 111 => ⟨S128x30x512, .f32⟩
  | 112 => ⟨S1x128x30x512, .f32⟩
  | 113 => ⟨S128x1024, .f32⟩
  | 114 => ⟨S1024, .f32⟩
  | 115 => ⟨S128x1x1024, .f32⟩
  | 116 => ⟨S_, .f32⟩
  | 117 => ⟨S128x1, .f32⟩
  | 118 => ⟨S128x1x1, .f32⟩
  | 119 => ⟨S_, .f32⟩
  | 120 => ⟨S128x1x1, .f32⟩
  | 121 => ⟨S128x1x1, .f32⟩
  | 122 => ⟨S_, .f32⟩
  | 123 => ⟨S128x1x1, .f32⟩
  | 124 => ⟨S128x1x1, .f32⟩
  | 125 => ⟨S128x1x1, .f32⟩
  | 126 => ⟨S128x1x1024, .f32⟩
  | 127 => ⟨S128x1x1024, .f32⟩
  | _ => ⟨S128x1x1024, .f32⟩

abbrev hbmTy0_2 (i : Nat) : BufTy := match i % 128 with
  | 0 => ⟨S1x1x1024, .f32⟩
  | 1 => ⟨S128x1x1024, .f32⟩
  | 2 => ⟨S128x1x1024, .f32⟩
  | 3 => ⟨S128x1024, .f32⟩
  | _ => ⟨S128x1x1024, .f32⟩

abbrev hbmTy (i : Nat) : BufTy := match i / 128 with
  | 0 => hbmTy0_0 i
  | 1 => hbmTy0_1 i
  | 2 => hbmTy0_2 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_cst : Ref sig .tc := ⟨.hbm, 18, rfl⟩
abbrev main_v0 : Ref sig .tc := ⟨.hbm, 19, rfl⟩
abbrev main_cst_0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_cst_1 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_call0_call0_cst : Ref sig .tc := ⟨.hbm, 32, rfl⟩
abbrev main_call0_call0_v0 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_cst_2 : Ref sig .tc := ⟨.hbm, 39, rfl⟩
abbrev main_v16 : Ref sig .tc := ⟨.hbm, 40, rfl⟩
abbrev main_v17 : Ref sig .tc := ⟨.hbm, 41, rfl⟩
abbrev main_cst_3 : Ref sig .tc := ⟨.hbm, 42, rfl⟩
abbrev main_v18 : Ref sig .tc := ⟨.hbm, 43, rfl⟩
abbrev main_v19 : Ref sig .tc := ⟨.hbm, 44, rfl⟩
abbrev main_cst_4 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_cst_5 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_cst_7 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_8 : Ref sig .tc := ⟨.hbm, 86, rfl⟩
abbrev main_v57 : Ref sig .tc := ⟨.hbm, 87, rfl⟩
abbrev main_v58 : Ref sig .tc := ⟨.hbm, 88, rfl⟩
abbrev main_cst_9 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_cst_10 : Ref sig .tc := ⟨.hbm, 95, rfl⟩
abbrev main_v64 : Ref sig .tc := ⟨.hbm, 96, rfl⟩
abbrev main_v65 : Ref sig .tc := ⟨.hbm, 97, rfl⟩
abbrev main_cst_11 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_12 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call1_v0 : Ref sig .tc := ⟨.hbm, 117, rfl⟩
abbrev main_call1_v1 : Ref sig .tc := ⟨.hbm, 118, rfl⟩
abbrev main_call1_cst : Ref sig .tc := ⟨.hbm, 119, rfl⟩
abbrev main_call1_v2 : Ref sig .tc := ⟨.hbm, 120, rfl⟩
abbrev main_call1_v3 : Ref sig .tc := ⟨.hbm, 121, rfl⟩
abbrev main_call1_cst_0 : Ref sig .tc := ⟨.hbm, 122, rfl⟩
abbrev main_call1_v4 : Ref sig .tc := ⟨.hbm, 123, rfl⟩
abbrev main_call1_v5 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_call2_v0 : Ref sig .tc := ⟨.hbm, 128, rfl⟩
abbrev main_call2_v1 : Ref sig .tc := ⟨.hbm, 129, rfl⟩
abbrev main_call2_cst : Ref sig .tc := ⟨.hbm, 130, rfl⟩
abbrev main_call2_v2 : Ref sig .tc := ⟨.hbm, 131, rfl⟩
abbrev main_call2_v3 : Ref sig .tc := ⟨.hbm, 132, rfl⟩
abbrev main_call2_cst_0 : Ref sig .tc := ⟨.hbm, 133, rfl⟩
abbrev main_call2_v4 : Ref sig .tc := ⟨.hbm, 134, rfl⟩
abbrev main_call2_v5 : Ref sig .tc := ⟨.hbm, 135, rfl⟩
abbrev main_v86 : Ref sig .tc := ⟨.hbm, 136, rfl⟩
abbrev main_cst_13 : Ref sig .tc := ⟨.hbm, 137, rfl⟩
abbrev main_v87 : Ref sig .tc := ⟨.hbm, 138, rfl⟩
abbrev main_v88 : Ref sig .tc := ⟨.hbm, 139, rfl⟩
abbrev main_cst_14 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_cst_15 : Ref sig .tc := ⟨.hbm, 145, rfl⟩
abbrev main_v93 : Ref sig .tc := ⟨.hbm, 146, rfl⟩
abbrev main_v94 : Ref sig .tc := ⟨.hbm, 147, rfl⟩
abbrev main_cst_16 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_cst_17 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_v108 : Ref sig .tc := ⟨.hbm, 163, rfl⟩
abbrev main_v109 : Ref sig .tc := ⟨.hbm, 164, rfl⟩
abbrev main_v110 : Ref sig .tc := ⟨.hbm, 165, rfl⟩
abbrev main_v111 : Ref sig .tc := ⟨.hbm, 166, rfl⟩
abbrev main_v112 : Ref sig .tc := ⟨.hbm, 167, rfl⟩
abbrev main_v113 : Ref sig .tc := ⟨.hbm, 168, rfl⟩
abbrev main_v114 : Ref sig .tc := ⟨.hbm, 169, rfl⟩
abbrev main_v115 : Ref sig .tc := ⟨.hbm, 170, rfl⟩
abbrev main_v116 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_cst_18 : Ref sig .tc := ⟨.hbm, 178, rfl⟩
abbrev main_v123 : Ref sig .tc := ⟨.hbm, 179, rfl⟩
abbrev main_v124 : Ref sig .tc := ⟨.hbm, 180, rfl⟩
abbrev main_cst_19 : Ref sig .tc := ⟨.hbm, 181, rfl⟩
abbrev main_v125 : Ref sig .tc := ⟨.hbm, 182, rfl⟩
abbrev main_v126 : Ref sig .tc := ⟨.hbm, 183, rfl⟩
abbrev main_cst_20 : Ref sig .tc := ⟨.hbm, 184, rfl⟩
abbrev main_v127 : Ref sig .tc := ⟨.hbm, 185, rfl⟩
abbrev main_v128 : Ref sig .tc := ⟨.hbm, 186, rfl⟩
abbrev main_v129 : Ref sig .tc := ⟨.hbm, 187, rfl⟩
abbrev main_v130 : Ref sig .tc := ⟨.hbm, 188, rfl⟩
abbrev main_v131 : Ref sig .tc := ⟨.hbm, 189, rfl⟩
abbrev main_v132 : Ref sig .tc := ⟨.hbm, 190, rfl⟩
abbrev main_v133 : Ref sig .tc := ⟨.hbm, 191, rfl⟩
abbrev main_v134 : Ref sig .tc := ⟨.hbm, 192, rfl⟩
abbrev main_v135 : Ref sig .tc := ⟨.hbm, 193, rfl⟩
abbrev main_call3_v0 : Ref sig .tc := ⟨.hbm, 194, rfl⟩
abbrev main_call3_v1 : Ref sig .tc := ⟨.hbm, 195, rfl⟩
abbrev main_call3_cst : Ref sig .tc := ⟨.hbm, 196, rfl⟩
abbrev main_call3_v2 : Ref sig .tc := ⟨.hbm, 197, rfl⟩
abbrev main_call3_v3 : Ref sig .tc := ⟨.hbm, 198, rfl⟩
abbrev main_call3_cst_0 : Ref sig .tc := ⟨.hbm, 199, rfl⟩
abbrev main_call3_v4 : Ref sig .tc := ⟨.hbm, 200, rfl⟩
abbrev main_call3_v5 : Ref sig .tc := ⟨.hbm, 201, rfl⟩
abbrev main_v136 : Ref sig .tc := ⟨.hbm, 202, rfl⟩
abbrev main_v137 : Ref sig .tc := ⟨.hbm, 203, rfl⟩
abbrev main_v138 : Ref sig .tc := ⟨.hbm, 204, rfl⟩
abbrev main_v139 : Ref sig .tc := ⟨.hbm, 205, rfl⟩
abbrev main_v140 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_cst_21 : Ref sig .tc := ⟨.hbm, 213, rfl⟩
abbrev main_v147 : Ref sig .tc := ⟨.hbm, 214, rfl⟩
abbrev main_v148 : Ref sig .tc := ⟨.hbm, 215, rfl⟩
abbrev main_cst_22 : Ref sig .tc := ⟨.hbm, 216, rfl⟩
abbrev main_v149 : Ref sig .tc := ⟨.hbm, 217, rfl⟩
abbrev main_v150 : Ref sig .tc := ⟨.hbm, 218, rfl⟩
abbrev main_v151 : Ref sig .tc := ⟨.hbm, 219, rfl⟩
abbrev main_v152 : Ref sig .tc := ⟨.hbm, 220, rfl⟩
abbrev main_v153 : Ref sig .tc := ⟨.hbm, 221, rfl⟩
abbrev main_v154 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_cst_23 : Ref sig .tc := ⟨.hbm, 227, rfl⟩
abbrev main_v159 : Ref sig .tc := ⟨.hbm, 228, rfl⟩
abbrev main_v160 : Ref sig .tc := ⟨.hbm, 229, rfl⟩
abbrev main_cst_24 : Ref sig .tc := ⟨.hbm, 230, rfl⟩
abbrev main_v161 : Ref sig .tc := ⟨.hbm, 231, rfl⟩
abbrev main_v162 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_cst_25 : Ref sig .tc := ⟨.hbm, 244, rfl⟩
abbrev main_v174 : Ref sig .tc := ⟨.hbm, 245, rfl⟩
abbrev main_v175 : Ref sig .tc := ⟨.hbm, 246, rfl⟩
abbrev main_cst_26 : Ref sig .tc := ⟨.hbm, 247, rfl⟩
abbrev main_v176 : Ref sig .tc := ⟨.hbm, 248, rfl⟩
abbrev main_v177 : Ref sig .tc := ⟨.hbm, 249, rfl⟩
abbrev main_cst_27 : Ref sig .tc := ⟨.hbm, 250, rfl⟩
abbrev main_v178 : Ref sig .tc := ⟨.hbm, 251, rfl⟩
abbrev main_v179 : Ref sig .tc := ⟨.hbm, 252, rfl⟩
abbrev main_v180 : Ref sig .tc := ⟨.hbm, 253, rfl⟩
abbrev main_v181 : Ref sig .tc := ⟨.hbm, 254, rfl⟩
abbrev main_v182 : Ref sig .tc := ⟨.hbm, 255, rfl⟩
abbrev main_v183 : Ref sig .tc := ⟨.hbm, 256, rfl⟩
abbrev main_v184 : Ref sig .tc := ⟨.hbm, 257, rfl⟩
abbrev main_v185 : Ref sig .tc := ⟨.hbm, 258, rfl⟩
abbrev main_v186 : Ref sig .tc := ⟨.hbm, 259, rfl⟩

abbrev nD : Nat := 1
abbrev τ : Topo := Topo.v7x

variable {F : FTy → Type} [FloatOps F]
-- ==== Kernel2.lean ====
abbrev S43008x1024 : Shape := ⟨2, ![43008, 1024]⟩
abbrev S168 : Shape := ⟨1, ![168]⟩
abbrev S1 : Shape := ⟨1, ![1]⟩
abbrev S32x1024x512 : Shape := ⟨3, ![32, 1024, 512]⟩
abbrev S32x512x1024 : Shape := ⟨3, ![32, 512, 1024]⟩
abbrev S256x1024 : Shape := ⟨2, ![256, 1024]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩
abbrev S256x512 : Shape := ⟨2, ![256, 512]⟩

abbrev nBuf : Space → Nat
  | .hbm => 5
  | .vmem => 13
  | .smem => 2
  | _ => 0

abbrev bufTy : (tb : Table) → Fin (tcTables nBuf tb) → BufTy
  | .hbm, ⟨0, _⟩ => ⟨S43008x1024, .f32⟩
  | .hbm, ⟨1, _⟩ => ⟨S32x1024x512, .f32⟩
  | .hbm, ⟨2, _⟩ => ⟨S32x1024x512, .f32⟩
  | .hbm, ⟨3, _⟩ => ⟨S32x512x1024, .f32⟩
  | .hbm, ⟨4, _⟩ => ⟨S43008x1024, .f32⟩
  | .local _ .vmem, ⟨0, _⟩ => ⟨S256x1024, .f32⟩
  | .local _ .vmem, ⟨1, _⟩ => ⟨S256x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S256x1024, .f32⟩
  | .local _ .vmem, ⟨9, _⟩ => ⟨S256x1024, .f32⟩
  | .local _ .vmem, ⟨10, _⟩ => ⟨S1024x512, .bf16⟩
  | .local _ .vmem, ⟨11, _⟩ => ⟨S1024x512, .bf16⟩
  | .local _ .vmem, ⟨12, _⟩ => ⟨S512x1024, .bf16⟩
  | .local _ .smem, ⟨0, _⟩ => ⟨S168, .i32⟩
  | .local _ .smem, ⟨1, _⟩ => ⟨S1, .i32⟩
  | _, _ => ⟨S43008x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![168], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v9 : Index := Scalar.indexCast arg0
  ![v9.toNat]
def k0_off3 (i : grid0.Coords) : Fin 1 → Nat :=
  let arg0 : BitVec 32 := BitVec.ofNat 32 (i 0).val
  let c1_i32 : BitVec 32 := 1#32
  let v11 : BitVec 32 := Scalar.subi arg0 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference2Ideal.lean ====
abbrev S43008x1024 : Shape := ⟨2, ![43008, 1024]⟩
abbrev S168 : Shape := ⟨1, ![168]⟩
abbrev S1 : Shape := ⟨1, ![1]⟩
abbrev S32x1024x512 : Shape := ⟨3, ![32, 1024, 512]⟩
abbrev S32x512x1024 : Shape := ⟨3, ![32, 512, 1024]⟩
abbrev S_ : Shape := ⟨0, ![]⟩
abbrev S168x1 : Shape := ⟨2, ![168, 1]⟩
abbrev S32 : Shape := ⟨1, ![32]⟩
abbrev S1x32 : Shape := ⟨2, ![1, 32]⟩
abbrev S168x32 : Shape := ⟨2, ![168, 32]⟩
abbrev S168x256x32 : Shape := ⟨3, ![168, 256, 32]⟩
abbrev S43008x32 : Shape := ⟨2, ![43008, 32]⟩
abbrev S32x512x43008 : Shape := ⟨3, ![32, 512, 43008]⟩
abbrev S32x43008x512 : Shape := ⟨3, ![32, 43008, 512]⟩
abbrev S32x43008x1024 : Shape := ⟨3, ![32, 43008, 1024]⟩

abbrev nBuf : Space → Nat
  | .hbm => 42
  | .vmem => 0
  | .smem => 0
  | _ => 0

abbrev bufTy : (tb : Table) → Fin (tcTables nBuf tb) → BufTy
  | .hbm, ⟨0, _⟩ => ⟨S43008x1024, .f32⟩
  | .hbm, ⟨1, _⟩ => ⟨S168, .i32⟩
  | .hbm, ⟨2, _⟩ => ⟨S1, .i32⟩
  | .hbm, ⟨3, _⟩ => ⟨S32x1024x512, .f32⟩
  | .hbm, ⟨4, _⟩ => ⟨S32x1024x512, .f32⟩
  | .hbm, ⟨5, _⟩ => ⟨S32x512x1024, .f32⟩
  | .hbm, ⟨6, _⟩ => ⟨S168, .i32⟩
  | .hbm, ⟨7, _⟩ => ⟨S_, .i32⟩
  | .hbm, ⟨8, _⟩ => ⟨S168, .i32⟩
  | .hbm, ⟨9, _⟩ => ⟨S168, .i1⟩
  | .hbm, ⟨10, _⟩ => ⟨S168x1, .i1⟩
  | .hbm, ⟨11, _⟩ => ⟨S168x1, .i32⟩
  | .hbm, ⟨12, _⟩ => ⟨S32, .i32⟩
  | .hbm, ⟨13, _⟩ => ⟨S1x32, .i32⟩
  | .hbm, ⟨14, _⟩ => ⟨S168x32, .i32⟩
  | .hbm, ⟨15, _⟩ => ⟨S168x32, .i32⟩
  | .hbm, ⟨16, _⟩ => ⟨S168x32, .i1⟩
  | .hbm, ⟨17, _⟩ => ⟨S168x32, .i1⟩
  | .hbm, ⟨18, _⟩ => ⟨S168x32, .i1⟩
  | .hbm, ⟨19, _⟩ => ⟨S_, .f32⟩
  | .hbm, ⟨20, _⟩ => ⟨S_, .f32⟩
  | .hbm, ⟨21, _⟩ => ⟨S168x32, .f32⟩
  | .hbm, ⟨22, _⟩ => ⟨S168x32, .f32⟩
  | .hbm, ⟨23, _⟩ => ⟨S168x32, .f32⟩
  | .hbm, ⟨24, _⟩ => ⟨S168x256x32, .f32⟩
  | .hbm, ⟨25, _⟩ => ⟨S43008x32, .f32⟩
  | .hbm, ⟨26, _⟩ => ⟨S32x512x43008, .f32⟩
  | .hbm, ⟨27, _⟩ => ⟨S32x43008x512, .f32⟩
  | .hbm, ⟨28, _⟩ => ⟨S32x512x43008, .f32⟩
  | .hbm, ⟨29, _⟩ => ⟨S32x43008x512, .f32⟩
  | .hbm, ⟨30, _⟩ => ⟨S32x43008x512, .f32⟩
  | .hbm, ⟨31, _⟩ => ⟨S32x43008x512, .f32⟩
  | .hbm, ⟨32, _⟩ => ⟨S_, .f32⟩
  | .hbm, ⟨33, _⟩ => ⟨S32x43008x512, .f32⟩
  | .hbm, ⟨34, _⟩ => ⟨S32x43008x512, .f32⟩
  | .hbm, ⟨35, _⟩ => ⟨S_, .f32⟩
  | .hbm, ⟨36, _⟩ => ⟨S32x43008x512, .f32⟩
  | .hbm, ⟨37, _⟩ => ⟨S32x43008x512, .f32⟩
  | .hbm, ⟨38, _⟩ => ⟨S32x43008x512, .f32⟩
  | .hbm, ⟨39, _⟩ => ⟨S32x43008x512, .f32⟩
  | .hbm, ⟨40, _⟩ => ⟨S32x43008x1024, .f32⟩
  | .hbm, ⟨41, _⟩ => ⟨S43008x1024, .f32⟩
  | _, _ => ⟨S43008x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_call1_v0 : Ref sig .tc := ⟨.hbm, 30, rfl⟩
abbrev main_call1_v1 : Ref sig .tc := ⟨.hbm, 31, rfl⟩
abbrev main_call1_cst : Ref sig .tc := ⟨.hbm, 32, rfl⟩
abbrev main_call1_v2 : Ref sig .tc := ⟨.hbm, 33, rfl⟩
abbrev main_call1_v3 : Ref sig .tc := ⟨.hbm, 34, rfl⟩
abbrev main_call1_cst_0 : Ref sig .tc := ⟨.hbm, 35, rfl⟩
abbrev main_call1_v4 : Ref sig .tc := ⟨.hbm, 36, rfl⟩
abbrev main_call1_v5 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩

abbrev nD : Nat := 1
abbrev τ : Topo := Topo.v7x

variable {F : FTy → Type} [FloatOps F]
-- ==== Proof.ExpertRun.lean ====
/- The experts' kernel at one grid point: on each of its three paths, what it leaves in the output block and in the
   three weight scratches. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.TableIdle
public import Idealize.ShloMosaic.Lib.Pipeline.ValueKit
public import Idealize.ShloMosaic.Lib.Exec
public import Idealize.ShloMosaic.Lib.Tactic

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The prefetched tables and the three weight scratches, whole. -/
abbrev tTe : Memref sig .tc .smem S168 .i32 := Memref.whole main_arg1
abbrev tNt : Memref sig .tc .smem S1 .i32 := Memref.whole main_arg2
abbrev sG : Memref sig .tc .vmem S1024x512 .bf16 := Memref.whole cc0_scratch0
abbrev sU : Memref sig .tc .vmem S1024x512 .bf16 := Memref.whole cc0_scratch1
abbrev sD : Memref sig .tc .vmem S512x1024 .bf16 := Memref.whole cc0_scratch2

/-- The words the body reads: the number of live tiles, this tile's expert, the tile's before. -/
abbrev wNt (T1 : S1.Idx → BitVec 32) : BitVec 32 :=
  View.readAt (Elt F) tNt.view (Rect.unit (s := S1) ![0] S1.size inb_S1_S1_0).toLoadRect T1 (Shape.Idx.first (numel1_S1.symm ▸ Nat.one_pos))
abbrev wTe (i : grid0.Coords) (T0 : S168.Idx → BitVec 32) : BitVec 32 :=
  View.readAt (Elt F) tTe.view (Rect.unit (s := S168) (k0_off2 i) S1.size (k0_off2_inb i)).toLoadRect T0 (Shape.Idx.first (numel1_S1.symm ▸ Nat.one_pos))
abbrev wTp (i : grid0.Coords) (T0 : S168.Idx → BitVec 32) : BitVec 32 :=
  View.readAt (Elt F) tTe.view (Rect.unit (s := S168) (k0_off3 i) S1.size (k0_off3_inb i)).toLoadRect T0 (Shape.Idx.first (numel1_S1.symm ▸ Nat.one_pos))

/-- The point reloads the weights: it is the first, or its expert is not the tile's before. -/
abbrev Anew (i : grid0.Coords) (T0 : S168.Idx → BitVec 32) : Prop :=
  Scalar.cmpi .ne (Scalar.extui (Scalar.ori (Scalar.cmpi .eq (BitVec.ofNat 32 (i 0).val) 0#32) (Scalar.cmpi .ne (wTe (F := F) i T0) (wTp (F := F) i T0))) : BitVec 32) 0#32 = 1#1

abbrev rX : Rect S256x1024 := Rect.unit (s := S256x1024) ![0, 0] S256x1024.size inb_S256x1024_S256x1024_0_0
abbrev rW : Rect S1x1024x512 := Rect.unit (s := S1x1024x512) ![0, 0, 0] S1x1024x512.size inb_S1x1024x512_S1x1024x512_0_0_0
abbrev rV : Rect S1x512x1024 := Rect.unit (s := S1x512x1024) ![0, 0, 0] S1x512x1024.size inb_S1x512x1024_S1x512x1024_0_0_0
abbrev rG : Rect S1024x512 := Rect.unit (s := S1024x512) ![0, 0] S1024x512.size inb_S1024x512_S1024x512_0_0
abbrev rD : Rect S512x1024 := Rect.unit (s := S512x1024) ![0, 0] S512x1024.size inb_S512x1024_S512x1024_0_0

variable (c : Dev nD) (i : grid0.Coords)
  (arg3 : Memref sig .tc .vmem S256x1024 .f32) (harg3 : arg3.IsWhole) (arg4 : Memref sig .tc .vmem S1x1024x512 .f32) (harg4 : arg4.IsWhole)
  (arg5 : Memref sig .tc .vmem S1x1024x512 .f32) (harg5 : arg5.IsWhole) (arg6 : Memref sig .tc .vmem S1x512x1024 .f32) (harg6 : arg6.IsWhole)
  (arg7 : Memref sig .tc .vmem S256x1024 .f32) (harg7 : arg7.IsWhole)
  (T0 : S168.Idx → BitVec 32) (T1 : S1.Idx → BitVec 32)
  (x0 : Vec F S256x1024 .f32) (x1 x2 : Vec F S1x1024x512 .f32) (x3 : Vec F S1x512x1024 .f32)

/-- What the body holds at a point: its input blocks, the tables, an output block at `Y` and the scratches at `G U D`. -/
def held (Y : Vec F S256x1024 .f32) (G U : Vec F S1024x512 .bf16) (D : Vec F S512x1024 .bf16) : sProp 𝕄 :=
  iprop(owns (c : Thread nD τ) arg3 fullShare x0 ∗ owns (c : Thread nD τ) arg4 fullShare x1
    ∗ owns (c : Thread nD τ) arg5 fullShare x2 ∗ owns (c : Thread nD τ) arg6 fullShare x3
    ∗ (tTe.view.loc (c : Thread nD τ) ↦{fullShare.right} T0) ∗ (tNt.view.loc (c : Thread nD τ) ↦{fullShare.right} T1)
    ∗ owns (c : Thread nD τ) arg7 fullShare Y
    ∗ owns (c : Thread nD τ) sG fullShare G ∗ owns (c : Thread nD τ) sU fullShare U ∗ owns (c : Thread nD τ) sD fullShare D)

set_option maxHeartbeats 4000000 in
/-- A live tile that reloads: the scratches take the blocks of weights, the output the feed-forward layer of the rows. -/
theorem body_new (hlive : k0_cond1 i (wNt (F := F) T1) = 1#1) (hnew : Anew (F := F) i T0) (hdead : ¬ k0_cond3 i (wNt (F := F) T1) = 1#1)
    (Y : Vec F S256x1024 .f32) (G U : Vec F S1024x512 .bf16) (D : Vec F S512x1024 .bf16) (K : PUnit → sProp 𝕄) :
    iprop(held c arg3 arg4 arg5 arg6 arg7 T0 T1 x0 x1 x2 x3 Y G U D
        ∗ (held c arg3 arg4 arg5 arg6 arg7 T0 T1 x0 x1 x2 x3 (k0_pay4 x0 (k0_pay1 x1) (k0_pay2 x2) (k0_pay3 x3)) (k0_pay1 x1) (k0_pay2 x2) (k0_pay3 x3) -∗ K ⟨⟩))
      ⊢ wp frame (wpE (defs₀ (F := F)) Variants.none c none) Set.univ (cc0_experts i tTe (Memref.isWhole_whole _) tNt (Memref.isWhole_whole _) arg3 harg3 arg4 harg4 arg5 harg5 arg6 harg6 arg7 harg7 sG (Memref.isWhole_whole _) sU (Memref.isWhole_whole _) sD (Memref.isWhole_whole _)) K := by
  rw [cc0_experts_eq_skeleton]; unfold cc0_experts_skel held owns
  iintro ⟨⟨⟨%f0, %e0, H0⟩, ⟨%f1, %e1, H1⟩, ⟨%f2, %e2, H2⟩, ⟨%f3, %e3, H3⟩, HT0, HT1, ⟨%f4, -, H4⟩, ⟨%f5, %e5, H5⟩, ⟨%f6, %e6, H6⟩, ⟨%f7, %e7, H7⟩⟩, Hk⟩
  subst e0 e1 e2 e3 e5 e6 e7
  have hS0 : sG.IsWhole := Memref.isWhole_whole _
  have hS1 : sU.IsWhole := Memref.isWhole_whole _
  have hS2 : sD.IsWhole := Memref.isWhole_whole _
  have hT0 : tTe.IsWhole := Memref.isWhole_whole _
  have hT1 : tNt.IsWhole := Memref.isWhole_whole _
  sl_exec! (disch := first | (guard_target = k0_cond1 _ _ = _; exact hlive) | (guard_target = Scalar.cmpi = _; exact hnew) | (guard_target = ¬(k0_cond3 _ _ = _); exact hdead))
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [HT0]; · iexact HT0
  isplitl [HT1]; · iexact HT1
  isplitl [H4]
  · iexists _; isplitr; swap
    · iexact H4
    ipureintro; delta body_new.sl.H4_1
    rw [View.read_writes_eq_canon _ _ _ (fun y => View.cover_of_tiled _ S256x1024.size (by rfl) y)]
    frame_out
  isplitl [H5]
  · iexists _; isplitr; swap
    · iexact H5
    ipureintro; delta body_new.sl.H5_1
    rw [View.read_writes_eq_canon _ _ _ (fun y => View.cover_of_tiled _ S1024x512.size (by rfl) y)]
    frame_out
  isplitl [H6]
  · iexists _; isplitr; swap
    · iexact H6
    ipureintro; delta body_new.sl.H6_1
    rw [View.read_writes_eq_canon _ _ _ (fun y => View.cover_of_tiled _ S1024x512.size (by rfl) y)]
    frame_out
  iexists _; isplitr; swap
  · iexact H7
  ipureintro; delta body_new.sl.H7_1
  rw [View.read_writes_eq_canon _ _ _ (fun y => View.cover_of_tiled _ S512x1024.size (by rfl) y)]
  frame_out

set_option maxHeartbeats 4000000 in
/-- A live tile of the same expert as the tile before: the scratches stay, and the output is the layer at them. -/
theorem body_same (hlive : k0_cond1 i (wNt (F := F) T1) = 1#1) (hnew : ¬ Anew (F := F) i T0) (hdead : ¬ k0_cond3 i (wNt (F := F) T1) = 1#1)
    (Y : Vec F S256x1024 .f32) (G U : Vec F S1024x512 .bf16) (D : Vec F S512x1024 .bf16) (K : PUnit → sProp 𝕄) :
    iprop(held c arg3 arg4 arg5 arg6 arg7 T0 T1 x0 x1 x2 x3 Y G U D
        ∗ (held c arg3 arg4 arg5 arg6 arg7 T0 T1 x0 x1 x2 x3 (k0_pay4 x0 G U D) G U D -∗ K ⟨⟩))
      ⊢ wp frame (wpE (defs₀ (F := F)) Variants.none c none) Set.univ (cc0_experts i tTe (Memref.isWhole_whole _) tNt (Memref.isWhole_whole _) arg3 harg3 arg4 harg4 arg5 harg5 arg6 harg6 arg7 harg7 sG (Memref.isWhole_whole _) sU (Memref.isWhole_whole _) sD (Memref.isWhole_whole _)) K := by
  rw [cc0_experts_eq_skeleton]; unfold cc0_experts_skel held owns
  iintro ⟨⟨⟨%f0, %e0, H0⟩, ⟨%f1, %e1, H1⟩, ⟨%f2, %e2, H2⟩, ⟨%f3, %e3, H3⟩, HT0, HT1, ⟨%f4, -, H4⟩, ⟨%f5, %e5, H5⟩, ⟨%f6, %e6, H6⟩, ⟨%f7, %e7, H7⟩⟩, Hk⟩
  subst e0 e1 e2 e3 e5 e6 e7
  have hS0 : sG.IsWhole := Memref.isWhole_whole _
  have hS1 : sU.IsWhole := Memref.isWhole_whole _
  have hS2 : sD.IsWhole := Memref.isWhole_whole _
  have hT0 : tTe.IsWhole := Memref.isWhole_whole _
  have hT1 : tNt.IsWhole := Memref.isWhole_whole _
  sl_exec! (disch := first | (guard_target = k0_cond1 _ _ = _; exact hlive) | (guard_target = ¬(Scalar.cmpi = _); exact hnew) | (guard_target = ¬(k0_cond3 _ _ = _); exact hdead))
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [HT0]; · iexact HT0
  isplitl [HT1]; · iexact HT1
  isplitl [H4]
  · iexists _; isplitr; swap
    · iexact H4
    ipureintro; delta body_same.sl.H4_1
    rw [View.read_writes_eq_canon _ _ _ (fun y => View.cover_of_tiled _ S256x1024.size (by rfl) y)]
    frame_out
  isplitl [H5]
  · iexists _; isplitr; swap
    · iexact H5
    ipureintro; rfl
  isplitl [H6]
  · iexists _; isplitr; swap
    · iexact H6
    ipureintro; rfl
  iexists _; isplitr; swap
  · iexact H7
  ipureintro; rfl

set_option maxHeartbeats 4000000 in
/-- A tile past the live ones: the output is zero, the scratches stay. -/
theorem body_dead (hlive : ¬ k0_cond1 i (wNt (F := F) T1) = 1#1) (hdead : k0_cond3 i (wNt (F := F) T1) = 1#1)
    (Y : Vec F S256x1024 .f32) (G U : Vec F S1024x512 .bf16) (D : Vec F S512x1024 .bf16) (K : PUnit → sProp 𝕄) :
    iprop(held c arg3 arg4 arg5 arg6 arg7 T0 T1 x0 x1 x2 x3 Y G U D
        ∗ (held c arg3 arg4 arg5 arg6 arg7 T0 T1 x0 x1 x2 x3 k0_pay5 G U D -∗ K ⟨⟩))
      ⊢ wp frame (wpE (defs₀ (F := F)) Variants.none c none) Set.univ (cc0_experts i tTe (Memref.isWhole_whole _) tNt (Memref.isWhole_whole _) arg3 harg3 arg4 harg4 arg5 harg5 arg6 harg6 arg7 harg7 sG (Memref.isWhole_whole _) sU (Memref.isWhole_whole _) sD (Memref.isWhole_whole _)) K := by
  rw [cc0_experts_eq_skeleton]; unfold cc0_experts_skel held owns
  iintro ⟨⟨⟨%f0, %e0, H0⟩, ⟨%f1, %e1, H1⟩, ⟨%f2, %e2, H2⟩, ⟨%f3, %e3, H3⟩, HT0, HT1, ⟨%f4, -, H4⟩, ⟨%f5, %e5, H5⟩, ⟨%f6, %e6, H6⟩, ⟨%f7, %e7, H7⟩⟩, Hk⟩
  subst e0 e1 e2 e3 e5 e6 e7
  have hS0 : sG.IsWhole := Memref.isWhole_whole _
  have hS1 : sU.IsWhole := Memref.isWhole_whole _
  have hS2 : sD.IsWhole := Memref.isWhole_whole _
  have hT0 : tTe.IsWhole := Memref.isWhole_whole _
  have hT1 : tNt.IsWhole := Memref.isWhole_whole _
  sl_exec! (disch := first | (guard_target = ¬(k0_cond1 _ _ = _); exact hlive) | (guard_target = k0_cond3 _ _ = _; exact hdead))
  sl_step
  iapply Hk
  isplitl [H0]
  · iexists f0; isplitr
    · ipureintro; rfl
    iexact H0
  isplitl [H1]
  · iexists f1; isplitr
    · ipureintro; rfl
    iexact H1
  isplitl [H2]
  · iexists f2; isplitr
    · ipureintro; rfl
    iexact H2
  isplitl [H3]
  · iexists f3; isplitr
    · ipureintro; rfl
    iexact H3
  isplitl [HT0]; · iexact HT0
  isplitl [HT1]; · iexact HT1
  isplitl [H4]
  · iexists _; isplitr; swap
    · iexact H4
    ipureintro; delta body_dead.sl.H4_1
    rw [View.read_writes_eq_canon _ _ _ (fun y => View.cover_of_tiled _ S256x1024.size (by rfl) y)]
    frame_out
  isplitl [H5]
  · iexists _; isplitr; swap
    · iexact H5
    ipureintro; rfl
  isplitl [H6]
  · iexists _; isplitr; swap
    · iexact H6
    ipureintro; rfl
  iexists _; isplitr; swap
  · iexact H7
  ipureintro; rfl

end Cert.Experts

end

end
-- ==== Proof.ExpertWords.lean ====
/- The words that steer the experts' kernel: which tiles are live, and where a tile reloads its expert's weights. -/
module

public import proofs.«01_k».proof.Proof.ExpertRun
public import Idealize.ShloMosaic.Lib.WordCmp

@[expose] public section

set_option maxRecDepth 16384

noncomputable section

namespace Cert.Experts

open Cert.Kernel2Ideal Cert.Kernel2Ideal.Gen
open Idealize.ShloMosaic Idealize.ShloMosaic.TcCoe

variable {F : FTy → Type} [FloatOps F]

theorem coord_lt (i : grid0.Coords) : (i 0).val < 168 := (i 0).isLt

theorem coord_toInt (i : grid0.Coords) : (BitVec.ofNat 32 (i 0).val).toInt = ((i 0).val : Int) := by
  have h := coord_lt i
  rw [BitVec.toInt_eq_toNat_of_lt (by rw [BitVec.toNat_ofNat]; omega), BitVec.toNat_ofNat, Nat.mod_eq_of_lt (by omega)]

theorem widen_ne (b : Bool) : (Scalar.cmpi .ne (Scalar.extui (BitVec.ofBool b) : BitVec 32) 0#32 = 1#1) ↔ b = true := by
  cases b <;> decide

/-- A tile is live when its number is below the count, as signed words. -/
theorem cond1_iff (i : grid0.Coords) (v : BitVec 32) : k0_cond1 i v = 1#1 ↔ ((i 0).val : Int) < v.toInt := by
  have e : k0_cond1 i v = Scalar.cmpi .ne (Scalar.extui (BitVec.ofBool (decide ((BitVec.ofNat 32 (i 0).val).toInt < v.toInt))) : BitVec 32) 0#32 := rfl
  rw [e, widen_ne, decide_eq_true_iff, coord_toInt]

/-- A tile is dead when it is not live. -/
theorem dead_iff (i : grid0.Coords) (v : BitVec 32) : k0_cond3 i v = 1#1 ↔ ¬ k0_cond1 i v = 1#1 := by
  have e : k0_cond3 i v = Scalar.cmpi .ne (Scalar.extui (BitVec.ofBool (decide (v.toInt ≤ (BitVec.ofNat 32 (i 0).val).toInt))) : BitVec 32) 0#32 := rfl
  rw [cond1_iff, e, widen_ne, decide_eq_true_iff, coord_toInt, not_lt]

/-- The number of live tiles is its table's one entry. -/
theorem wNt_eq (T1 : S1.Idx → BitVec 32) : wNt (F := F) T1 = T1 (ix1 (n0 := 1) 0) := by
  show T1 _ = T1 _
  congr 1; funext a; fin_cases a; rfl

/-- The tile's expert is its entry of the tile table, -/
theorem wTe_eq (i : grid0.Coords) (T0 : S168.Idx → BitVec 32) : wTe (F := F) i T0 = T0 (ix1 (n0 := 168) ⟨(i 0).val, coord_lt i⟩) := by
  have e : ∀ i : Fin 168, (Scalar.indexCast (BitVec.ofNat 32 i.val) : Index).toNat = i.val := by decide +kernel
  show T0 _ = T0 _
  congr 1; funext a; fin_cases a; apply Fin.ext
  show (Scalar.indexCast (BitVec.ofNat 32 (i 0).val) : Index).toNat + 1 * 0 = _
  rw [e (i 0)]; rfl

/-- and the expert before it the entry before. -/
theorem wTp_eq (i : grid0.Coords) (T0 : S168.Idx → BitVec 32) (h : (i 0).val ≠ 0) :
    wTp (F := F) i T0 = T0 (ix1 (n0 := 168) ⟨(i 0).val - 1, by have := coord_lt i; omega⟩) := by
  have e : ∀ i : Fin 168, i.val ≠ 0 → (Scalar.indexCast (Scalar.maxsi (Scalar.subi (BitVec.ofNat 32 i.val) 1#32) 0#32) : Index).toNat = i.val - 1 := by decide +kernel
  show T0 _ = T0 _
  congr 1; funext a; fin_cases a; apply Fin.ext
  show (Scalar.indexCast (Scalar.maxsi (Scalar.subi (BitVec.ofNat 32 (i 0).val) 1#32) 0#32) : Index).toNat + 1 * 0 = _
  rw [e (i 0) h]; rfl

/-- A point that keeps the weights is not the first, and its expert is the tile's before. -/
theorem not_new (i : grid0.Coords) (T0 : S168.Idx → BitVec 32) (h : ¬ Anew (F := F) i T0) :
    (i 0).val ≠ 0 ∧ wTe (F := F) i T0 = wTp (F := F) i T0 := by
  by_contra hc
  apply h
  show Scalar.cmpi .ne (Scalar.extui (Scalar.ori (BitVec.ofBool (BitVec.ofNat 32 (i 0).val == 0#32)) (BitVec.ofBool (wTe (F := F) i T0 != wTp (F := F) i T0))) : BitVec 32) 0#32 = 1#1
  generalize wTe (F := F) i T0 = x at *
  generalize wTp (F := F) i T0 = y at *
  by_cases h0 : (i 0).val = 0
  · rw [h0]
    cases (x != y) <;> decide
  · have hx : x ≠ y := fun e => hc ⟨h0, e⟩
    rw [bne_iff_ne.2 hx]
    cases (BitVec.ofNat 32 (i 0).val == 0#32) <;> decide

end Cert.Experts

end
-- ==== Proof.ExpertFrame.lean ====
/- The experts' kernel from launch to end, at any tables that name experts: every fair execution terminates, the
   argument arrays end unchanged, and the output array is what the grid's write-backs leave. -/
module

public import proofs.«01_k».proof.Proof.ExpertWords
public import Idealize.ShloMosaic.Lib.Pipeline.Quiescent
public import Idealize.ShloMosaic.Lib.Claim
public import Idealize.ShloMosaic.Lib.Pipeline.Kit
public import Idealize.ShloMosaic.Lib.Writes
public import Idealize.ShloMosaic.Lib.Ring
public import Idealize.ShloMosaic.Adequacy
public import Idealize.ShloMosaic.Init

@[expose] public section

set_option maxRecDepth 16384

noncomputable section

namespace Cert.Experts

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

abbrev EP : Emb (UR sig nD τ) 𝕄 := emb₁

theorem crd_val : ∀ t : Fin grid0.N, ((grid0.coords t) 0).val = t.val := by decide +kernel

/-! ## The pipeline at the tables `a` -/

variable (a : (pcfg0 (F := F)).Adm)

abbrev cfgA : Pipeline.Cfg sig Λ₀ := cfg0 (F := F) a
abbrev pcs : Fin 1 → Pipeline.Cfg sig Λ₀ := Pipeline.pin (pcfgs (F := F)) fun _ => a
abbrev T0 : S168.Idx → BitVec 32 := a.1 0
abbrev T1 : S1.Idx → BitVec 32 := a.1 1

variable (m : (ℓ : Loc nD τ sig) → Buf (Elt F) ℓ) (ρ : Dev nD → PrngReg)

abbrev crd (t : Fin (cfgA a).N) : (cfgA a).grid.Coords := (cfgA a).grid.coords t

abbrev ms0_0 (t : Fin (cfgA a).N) : Memref sig .tc .vmem S256x1024 .f32 := spec0_0.stage ((cfgA a).slots t (0 : Fin 5))
abbrev hs0_0 (t : Fin (cfgA a).N) : (ms0_0 a t).IsWhole := hstage0_0 (((cfgA a).slots t (0 : Fin 5)).cast nbuf0_0)
abbrev ms0_1 (t : Fin (cfgA a).N) : Memref sig .tc .vmem S1x1024x512 .f32 := spec0_1.stage ((cfgA a).slots t (1 : Fin 5))
abbrev hs0_1 (t : Fin (cfgA a).N) : (ms0_1 a t).IsWhole := hstage0_1 (((cfgA a).slots t (1 : Fin 5)).cast nbuf0_1)
abbrev ms0_2 (t : Fin (cfgA a).N) : Memref sig .tc .vmem S1x1024x512 .f32 := spec0_2.stage ((cfgA a).slots t (2 : Fin 5))
abbrev hs0_2 (t : Fin (cfgA a).N) : (ms0_2 a t).IsWhole := hstage0_2 (((cfgA a).slots t (2 : Fin 5)).cast nbuf0_2)
abbrev ms0_3 (t : Fin (cfgA a).N) : Memref sig .tc .vmem S1x512x1024 .f32 := spec0_3.stage ((cfgA a).slots t (3 : Fin 5))
abbrev hs0_3 (t : Fin (cfgA a).N) : (ms0_3 a t).IsWhole := hstage0_3 (((cfgA a).slots t (3 : Fin 5)).cast nbuf0_3)
abbrev ms0_4 (t : Fin (cfgA a).N) : Memref sig .tc .vmem S256x1024 .f32 := spec0_4.stage ((cfgA a).slots t (4 : Fin 5))
abbrev hs0_4 (t : Fin (cfgA a).N) : (ms0_4 a t).IsWhole := hstage0_4 (((cfgA a).slots t (4 : Fin 5)).cast nbuf0_4)

/-- Window `w`'s block at point `t`, read off its array at launch. -/
def iblk (c : Dev nD) (w : Fin (cfgA a).W) (t : Fin (cfgA a).N) : (((cfgA a).win w).xblock (crd a t)).Idx → Elt F ((cfgA a).win w).elt :=
  (((cfgA a).win w).blk t).view.read (Elt F) (m (((cfgA a).win w).arr.view.loc (c : Thread nD τ)))

/-- The point's tile is one of the live ones. -/
abbrev live (t : Fin (cfgA a).N) : Prop := k0_cond1 (crd a t) (wNt (F := F) (T1 a)) = 1#1

/-- The output block of point `t`: the feed-forward layer of the rows at the expert's weights if the tile is live, zero if not. -/
def outB (c : Dev nD) (t : Fin (cfgA a).N) : Vec F S256x1024 .f32 :=
  open Classical in
  if live a t then k0_pay4 (F := F) (iblk a m c (0 : Fin 5) t) (k0_pay1 (iblk a m c (1 : Fin 5) t)) (k0_pay2 (iblk a m c (2 : Fin 5) t)) (k0_pay3 (iblk a m c (3 : Fin 5) t))
  else k0_pay5

/-- The invariant: after a live point the scratches hold that point's weights. -/
def Phi (c : Dev nD) (t : Fin ((cfgA a).N + 1)) : sProp 𝕄 :=
  iprop(∃ G U D, ⌜∀ k : Fin (cfgA a).N, t.val = k.val + 1 → live a k →
        G = k0_pay1 (F := F) (iblk a m c (1 : Fin 5) k) ∧ U = k0_pay2 (F := F) (iblk a m c (2 : Fin 5) k) ∧ D = k0_pay3 (F := F) (iblk a m c (3 : Fin 5) k)⌝
    ∗ owns (c : Thread nD τ) sG fullShare G ∗ owns (c : Thread nD τ) sU fullShare U ∗ owns (c : Thread nD τ) sD fullShare D
    ∗ (tTe.view.loc (c : Thread nD τ) ↦{fullShare.right} T0 a) ∗ (tNt.view.loc (c : Thread nD τ) ↦{fullShare.right} T1 a))

def dats (_ : Fin 1) (c : Dev nD) : Dat τ (Elt F) Unit ℕ (UR sig nD τ) ℕ (cfgA a) c where
  A w := m (((cfgA a).win w).arr.view.loc (c : Thread nD τ))
  after w t := match w with
    | ⟨0, _⟩ => iblk a m c (0 : Fin 5) t
    | ⟨1, _⟩ => iblk a m c (1 : Fin 5) t
    | ⟨2, _⟩ => iblk a m c (2 : Fin 5) t
    | ⟨3, _⟩ => iblk a m c (3 : Fin 5) t
    | ⟨4, _⟩ => outB a m c t
  Φ t := Phi a m c t
  q _ := fullShare
  owed _ := 0

theorem after_0 (c : Dev nD) (t : Fin (cfgA a).N) : (dats a m 0 c).after (0 : Fin 5) t = iblk a m c (0 : Fin 5) t := rfl
theorem after_1 (c : Dev nD) (t : Fin (cfgA a).N) : (dats a m 0 c).after (1 : Fin 5) t = iblk a m c (1 : Fin 5) t := rfl
theorem after_2 (c : Dev nD) (t : Fin (cfgA a).N) : (dats a m 0 c).after (2 : Fin 5) t = iblk a m c (2 : Fin 5) t := rfl
theorem after_3 (c : Dev nD) (t : Fin (cfgA a).N) : (dats a m 0 c).after (3 : Fin 5) t = iblk a m c (3 : Fin 5) t := rfl
theorem after_4 (c : Dev nD) (t : Fin (cfgA a).N) : (dats a m 0 c).after (4 : Fin 5) t = outB a m c t := rfl

theorem before_0 (c : Dev nD) (t : Fin (cfgA a).N) (d) : (dats a m 0 c).before (0 : Fin 5) t d = iblk a m c (0 : Fin 5) t :=
  ((dats a m 0 c).before_in_eq_fetched (0 : Fin 5) rfl (fun _ => rfl) (fun _ _ _ => rfl) (fun t => by rw [after_0]; unfold Dat.blockOf iblk; rfl) t d).trans
    (by unfold Dat.fetched Dat.blockOf iblk; rfl)
theorem before_1 (c : Dev nD) (t : Fin (cfgA a).N) (d) : (dats a m 0 c).before (1 : Fin 5) t d = iblk a m c (1 : Fin 5) t :=
  ((dats a m 0 c).before_in_eq_fetched (1 : Fin 5) rfl (fun _ => rfl) (fun _ _ _ => rfl) (fun t => by rw [after_1]; unfold Dat.blockOf iblk; rfl) t d).trans
    (by unfold Dat.fetched Dat.blockOf iblk; rfl)
theorem before_2 (c : Dev nD) (t : Fin (cfgA a).N) (d) : (dats a m 0 c).before (2 : Fin 5) t d = iblk a m c (2 : Fin 5) t :=
  ((dats a m 0 c).before_in_eq_fetched (2 : Fin 5) rfl (fun _ => rfl) (fun _ _ _ => rfl) (fun t => by rw [after_2]; unfold Dat.blockOf iblk; rfl) t d).trans
    (by unfold Dat.fetched Dat.blockOf iblk; rfl)
theorem before_3 (c : Dev nD) (t : Fin (cfgA a).N) (d) : (dats a m 0 c).before (3 : Fin 5) t d = iblk a m c (3 : Fin 5) t :=
  ((dats a m 0 c).before_in_eq_fetched (3 : Fin 5) rfl (fun _ => rfl) (fun _ _ _ => rfl) (fun t => by rw [after_3]; unfold Dat.blockOf iblk; rfl) t d).trans
    (by unfold Dat.fetched Dat.blockOf iblk; rfl)

/-! ## The schedule at a point -/

/-- The output window never idles: the tile is live, or it is dead and zero is stored. -/
theorem idle_4 (t : Fin (cfgA a).N) : (cfgA a).idle (4 : Fin 5) ((cfgA a).grid.coords t) = false := by
  have e : a.1.atD 1 ![0] = wNt (F := F) (T1 a) := by
    rw [wNt_eq]
    unfold Pipeline.Prefetch.Contents.atD
    have hb : ∀ x : Fin 1, (![0] : Fin 1 → ℕ) x + 1 ≤ S1.size x := by decide
    refine (dif_pos hb).trans ?_
    show T1 a _ = T1 a _
    congr 1; funext d; fin_cases d; rfl
  show (!(k0_cond1 (crd a t) (a.1.atD 1 ![0]) == 1#1) && !(k0_cond3 (crd a t) (a.1.atD 1 ![0]) == 1#1)) = false
  rw [e]
  by_cases h : live a t
  · rw [show k0_cond1 (crd a t) (wNt (F := F) (T1 a)) = 1#1 from h]; rfl
  · rw [(dead_iff (crd a t) _).2 h]; simp

/-- The blocks of weights at two points of the same expert are the same. -/
theorem blocks_same (c : Dev nD) (t k : Fin (cfgA a).N) (h : wTe (F := F) (crd a t) (T0 a) = wTe (F := F) (crd a k) (T0 a)) :
    k0_pay1 (F := F) (iblk a m c (1 : Fin 5) t) = k0_pay1 (F := F) (iblk a m c (1 : Fin 5) k)
      ∧ k0_pay2 (F := F) (iblk a m c (2 : Fin 5) t) = k0_pay2 (F := F) (iblk a m c (2 : Fin 5) k)
      ∧ k0_pay3 (F := F) (iblk a m c (3 : Fin 5) t) = k0_pay3 (F := F) (iblk a m c (3 : Fin 5) k) := by
  have h1 : cc0_transform_1 (F := F) k0_off1_inb numel1_S1 a.1 (crd a t) = cc0_transform_1 (F := F) k0_off1_inb numel1_S1 a.1 (crd a k) := by
    show ![BitVec.toNat (wTe (F := F) (crd a t) (T0 a)), _, _] = ![BitVec.toNat (wTe (F := F) (crd a k) (T0 a)), _, _]
    rw [h]
  refine ⟨congrArg _ ?_, congrArg _ ?_, congrArg _ ?_⟩
  · unfold iblk; funext y
    show m _ _ = m _ _
    congr 1; funext d; apply Fin.ext
    show cc0_transform_1 (F := F) k0_off1_inb numel1_S1 a.1 (crd a t) d * _ + 1 * _ = cc0_transform_1 (F := F) k0_off1_inb numel1_S1 a.1 (crd a k) d * _ + 1 * _
    rw [h1]
  · unfold iblk; funext y
    show m _ _ = m _ _
    congr 1; funext d; apply Fin.ext
    show cc0_transform_1 (F := F) k0_off1_inb numel1_S1 a.1 (crd a t) d * _ + 1 * _ = cc0_transform_1 (F := F) k0_off1_inb numel1_S1 a.1 (crd a k) d * _ + 1 * _
    rw [h1]
  · unfold iblk; funext y
    show m _ _ = m _ _
    congr 1; funext d; apply Fin.ext
    show cc0_transform_1 (F := F) k0_off1_inb numel1_S1 a.1 (crd a t) d * _ + 1 * _ = cc0_transform_1 (F := F) k0_off1_inb numel1_S1 a.1 (crd a k) d * _ + 1 * _
    rw [h1]

/-- A point that does not reload follows a point of the same expert; if it is live so is the one before. -/
theorem same_prev (t : Fin (cfgA a).N) (hl : live a t) (hn : ¬ Anew (F := F) (crd a t) (T0 a)) :
    ∃ k : Fin (cfgA a).N, t.val = k.val + 1 ∧ live a k ∧ ∀ c : Dev nD,
      k0_pay1 (F := F) (iblk a m c (1 : Fin 5) t) = k0_pay1 (F := F) (iblk a m c (1 : Fin 5) k)
        ∧ k0_pay2 (F := F) (iblk a m c (2 : Fin 5) t) = k0_pay2 (F := F) (iblk a m c (2 : Fin 5) k)
        ∧ k0_pay3 (F := F) (iblk a m c (3 : Fin 5) t) = k0_pay3 (F := F) (iblk a m c (3 : Fin 5) k) := by
  obtain ⟨h0, he⟩ := not_new _ _ hn
  have ht : ((crd a t) 0).val = t.val := crd_val t
  have hN : t.val < 168 := t.isLt
  have hk : ((crd a ⟨t.val - 1, Nat.lt_of_le_of_lt (Nat.sub_le _ _) t.isLt⟩) 0).val = t.val - 1 := crd_val _
  refine ⟨⟨t.val - 1, Nat.lt_of_le_of_lt (Nat.sub_le _ _) t.isLt⟩, ?_, ?_, fun c => blocks_same a m c t _ ?_⟩
  · show t.val = t.val - 1 + 1
    omega
  · have hl' := (cond1_iff _ _).1 hl
    refine (cond1_iff _ _).2 ?_
    rw [ht] at hl'; rw [hk]; omega
  · rw [he, wTp_eq _ _ h0, wTe_eq]
    congr 2; apply Fin.ext
    show ((crd a t) 0).val - 1 = _
    rw [ht]; exact hk.symm

/-! ## The body obligation -/

abbrev bodyAt0 (t : Fin (cfgA a).N) : Prog (TpuEff nD τ sig (Elt F) Λ₀ .tc) PUnit :=
  cc0_experts (crd a t) tTe (Memref.isWhole_whole _) tNt (Memref.isWhole_whole _) (ms0_0 a t) (hs0_0 a t) (ms0_1 a t) (hs0_1 a t) (ms0_2 a t) (hs0_2 a t) (ms0_3 a t) (hs0_3 a t) (ms0_4 a t) (hs0_4 a t) sG (Memref.isWhole_whole _) sU (Memref.isWhole_whole _) sD (Memref.isWhole_whole _)

set_option maxHeartbeats 4000000 in
/-- The body at point `t` by its three paths. -/
theorem sound_body (c : Dev nD) (t : Fin (cfgA a).N) :
    iprop((dats a m 0 c).Φ t.castSucc ∗ (dats a m 0 c).owesAt () t.castSucc
        ∗ (∃ d, owns (c : Thread nD τ) (ms0_0 a t) fullShare ((dats a m 0 c).before (0 : Fin 5) t d))
        ∗ (∃ d, owns (c : Thread nD τ) (ms0_1 a t) fullShare ((dats a m 0 c).before (1 : Fin 5) t d))
        ∗ (∃ d, owns (c : Thread nD τ) (ms0_2 a t) fullShare ((dats a m 0 c).before (2 : Fin 5) t d))
        ∗ (∃ d, owns (c : Thread nD τ) (ms0_3 a t) fullShare ((dats a m 0 c).before (3 : Fin 5) t d))
        ∗ (∃ d, owns (c : Thread nD τ) (ms0_4 a t) fullShare ((dats a m 0 c).before (4 : Fin 5) t d)))
      ⊢ wp frame (wpE (defs₀ (F := F)) Variants.none c none) Set.univ (bodyAt0 a t) fun _ =>
          iprop((dats a m 0 c).Φ t.succ ∗ (dats a m 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m 0 c).before w t d))
                  | true => owns (c : Thread nD τ) (((cfgA a).win w).stage ((cfgA a).slots t w)) fullShare ((dats a m 0 c).after w t)
                | false => owns (c : Thread nD τ) (((cfgA a).win w).stage ((cfgA a).slots t w)) fullShare ((dats a m 0 c).after w t)) := by
  rw [bigSep_W0]
  rewrite [idle_4]
  simp only [before_0, before_1, before_2, before_3, after_0, after_1, after_2, after_3, after_4]
  rewrite [show (dats a m 0 c).Φ t.succ = Phi a m c t.succ from rfl, show (dats a m 0 c).Φ t.castSucc = Phi a m c t.castSucc from rfl,
    show (dats a m 0 c).owesAt () t.succ = (dats a m 0 c).owesAt () t.castSucc from rfl]
  unfold Phi
  iintro ⟨⟨%G, %U, %D, %hG, HS0, HS1, HS2, HT0, HT1⟩, Ho, ⟨%d0, H0⟩, ⟨%d1, H1⟩, ⟨%d2, H2⟩, ⟨%d3, H3⟩, ⟨%d4, H4⟩⟩
  by_cases hl : live a t
  · have hd : ¬ k0_cond3 (crd a t) (wNt (F := F) (T1 a)) = 1#1 := fun h => (dead_iff _ _).1 h hl
    have hout : outB a m c t = k0_pay4 (F := F) (iblk a m c (0 : Fin 5) t) (k0_pay1 (iblk a m c (1 : Fin 5) t)) (k0_pay2 (iblk a m c (2 : Fin 5) t)) (k0_pay3 (iblk a m c (3 : Fin 5) t)) := by
      unfold outB; rw [if_pos hl]
    have hstep : ∀ k : Fin (cfgA a).N, t.succ.val = k.val + 1 → k = t := fun k h => Fin.ext (by have := Fin.val_succ t; omega)
    by_cases hn : Anew (F := F) (crd a t) (T0 a)
    · iapply (body_new c (crd a t) (ms0_0 a t) (hs0_0 a t) (ms0_1 a t) (hs0_1 a t) (ms0_2 a t) (hs0_2 a t) (ms0_3 a t) (hs0_3 a t) (ms0_4 a t) (hs0_4 a t) (T0 a) (T1 a)
        (iblk a m c (0 : Fin 5) t) (iblk a m c (1 : Fin 5) t) (iblk a m c (2 : Fin 5) t) (iblk a m c (3 : Fin 5) t) hl hn hd _ G U D _)
      unfold held
      isplitl [H0 H1 H2 H3 HT0 HT1 H4 HS0 HS1 HS2]
      · isplitl [H0]; · iexact H0
        isplitl [H1]; · iexact H1
        isplitl [H2]; · iexact H2
        isplitl [H3]; · iexact H3
        isplitl [HT0]; · iexact HT0
        isplitl [HT1]; · iexact HT1
        isplitl [H4]; · iexact H4
        isplitl [HS0]; · iexact HS0
        isplitl [HS1]; · iexact HS1
        iexact HS2
      iintro ⟨H0, H1, H2, H3, HT0, HT1, H4, HS0, HS1, HS2⟩
      isplitl [HS0 HS1 HS2 HT0 HT1]
      · iexists _; iexists _; iexists _
        isplitr; swap
        · isplitl [HS0]; · iexact HS0
          isplitl [HS1]; · iexact HS1
          isplitl [HS2]; · iexact HS2
          isplitl [HT0]; · iexact HT0
          iexact HT1
        · ipureintro; intro k hk _; obtain rfl := hstep k hk; exact ⟨rfl, rfl, rfl⟩
      isplitl [Ho]; · iexact Ho
      isplitl [H0]; · iexact H0
      isplitl [H1]; · iexact H1
      isplitl [H2]; · iexact H2
      isplitl [H3]; · iexact H3
      rw [hout]; iexact H4
    · obtain ⟨k, hk, hkl, hsame⟩ := same_prev a m t hl hn
      obtain ⟨eG, eU, eD⟩ := hG k (by rw [Fin.val_castSucc]; exact hk) hkl
      obtain ⟨s1, s2, s3⟩ := hsame c
      rw [← s1] at eG; rw [← s2] at eU; rw [← s3] at eD
      subst eG eU eD
      iapply (body_same c (crd a t) (ms0_0 a t) (hs0_0 a t) (ms0_1 a t) (hs0_1 a t) (ms0_2 a t) (hs0_2 a t) (ms0_3 a t) (hs0_3 a t) (ms0_4 a t) (hs0_4 a t) (T0 a) (T1 a)
        (iblk a m c (0 : Fin 5) t) (iblk a m c (1 : Fin 5) t) (iblk a m c (2 : Fin 5) t) (iblk a m c (3 : Fin 5) t) hl hn hd _ _ _ _ _)
      unfold held
      isplitl [H0 H1 H2 H3 HT0 HT1 H4 HS0 HS1 HS2]
      · isplitl [H0]; · iexact H0
        isplitl [H1]; · iexact H1
        isplitl [H2]; · iexact H2
        isplitl [H3]; · iexact H3
        isplitl [HT0]; · iexact HT0
        isplitl [HT1]; · iexact HT1
        isplitl [H4]; · iexact H4
        isplitl [HS0]; · iexact HS0
        isplitl [HS1]; · iexact HS1
        iexact HS2
      iintro ⟨H0, H1, H2, H3, HT0, HT1, H4, HS0, HS1, HS2⟩
      isplitl [HS0 HS1 HS2 HT0 HT1]
      · iexists _; iexists _; iexists _
        isplitr; swap
        · isplitl [HS0]; · iexact HS0
          isplitl [HS1]; · iexact HS1
          isplitl [HS2]; · iexact HS2
          isplitl [HT0]; · iexact HT0
          iexact HT1
        · ipureintro; intro k' hk' _; obtain rfl := hstep k' hk'; exact ⟨rfl, rfl, rfl⟩
      isplitl [Ho]; · iexact Ho
      isplitl [H0]; · iexact H0
      isplitl [H1]; · iexact H1
      isplitl [H2]; · iexact H2
      isplitl [H3]; · iexact H3
      rw [hout]; iexact H4
  · have hd : k0_cond3 (crd a t) (wNt (F := F) (T1 a)) = 1#1 := (dead_iff _ _).2 hl
    have hout : outB a m c t = k0_pay5 (F := F) := by unfold outB; rw [if_neg hl]
    iapply (body_dead c (crd a t) (ms0_0 a t) (hs0_0 a t) (ms0_1 a t) (hs0_1 a t) (ms0_2 a t) (hs0_2 a t) (ms0_3 a t) (hs0_3 a t) (ms0_4 a t) (hs0_4 a t) (T0 a) (T1 a)
      (iblk a m c (0 : Fin 5) t) (iblk a m c (1 : Fin 5) t) (iblk a m c (2 : Fin 5) t) (iblk a m c (3 : Fin 5) t) hl hd _ G U D _)
    unfold held
    isplitl [H0 H1 H2 H3 HT0 HT1 H4 HS0 HS1 HS2]
    · isplitl [H0]; · iexact H0
      isplitl [H1]; · iexact H1
      isplitl [H2]; · iexact H2
      isplitl [H3]; · iexact H3
      isplitl [HT0]; · iexact HT0
      isplitl [HT1]; · iexact HT1
      isplitl [H4]; · iexact H4
      isplitl [HS0]; · iexact HS0
      isplitl [HS1]; · iexact HS1
      iexact HS2
    iintro ⟨H0, H1, H2, H3, HT0, HT1, H4, HS0, HS1, HS2⟩
    isplitl [HS0 HS1 HS2 HT0 HT1]
    · iexists _; iexists _; iexists _
      isplitr; swap
      · isplitl [HS0]; · iexact HS0
        isplitl [HS1]; · iexact HS1
        isplitl [HS2]; · iexact HS2
        isplitl [HT0]; · iexact HT0
        iexact HT1
      · ipureintro; intro k hk hkl; exact absurd (show k = t from Fin.ext (by have := Fin.val_succ t; omega)) (fun e => hl (e ▸ hkl))
    isplitl [Ho]; · iexact Ho
    isplitl [H0]; · iexact H0
    isplitl [H1]; · iexact H1
    isplitl [H2]; · iexact H2
    isplitl [H3]; · iexact H3
    rw [hout]; iexact H4

theorem body_obligation (c : Dev nD) : BodyObligation (dats a m 0 c) (defs₀ (F := F)) Variants.none () Set.univ := fun t => by
  rw [bigSep_W0]
  exact sound_body a m c t

/-! ## The launch -/

def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m 0 c).share w = fullShare := by unfold Dat.share; split <;> rfl

theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

theorem phi0_intro (c : Dev nD) :
    iprop(BI.emp ∗ Pipeline.prefHeld pre0 c (fun _ => fullShare.right) a.1 ∗ Pipeline.scopedRest spec0 c) ⊢ (dats a m 0 c).Φ 0 := by
  rw [prefHeld_eq, scopedRest0_eq, show (dats a m 0 c).Φ 0 = Phi a m c 0 from rfl]
  unfold Phi
  simp only [owns_whole]
  iintro ⟨-, ⟨HT0, HT1⟩, ⟨%a0, HS0⟩, ⟨%a1, HS1⟩, ⟨%a2, HS2⟩⟩
  iexists a0; iexists a1; iexists a2
  isplitr; · ipureintro; intro k hk; exact absurd hk (by simp)
  isplitl [HS0]; · iexact HS0
  isplitl [HS1]; · iexact HS1
  isplitl [HS2]; · iexact HS2
  isplitl [HT0]; · iexact HT0
  iexact HT1

theorem phiN_exit (c : Dev nD) : (dats a m 0 c).Φ (Fin.last (cfgA a).N) ⊢ iprop(BI.emp ∗ Pipeline.scopedRest spec0 c) := by
  rw [scopedRest0_eq, show (dats a m 0 c).Φ (Fin.last (cfgA a).N) = Phi a m c (Fin.last _) from rfl]
  unfold Phi
  simp only [owns_whole]
  iintro ⟨%G, %U, %D, -, HS0, HS1, HS2, -, -⟩
  isplitr; · iempintro
  isplitl [HS0]
  · iexists G; iexact HS0
  isplitl [HS1]
  · iexists U; iexact HS1
  iexists D; iexact HS2

/-- Every array at what the write-backs leave, every table as it was. -/
def QC : PUnit × MemSt nD τ sig (Elt F) → Prop := fun r =>
  ∀ c : Dev nD, (∀ w : Fin (cfgA a).W, r.2.mem (((cfgA a).win w).arr.view.loc (c : Thread nD τ)) = (dats a m 0 c).arrAt w (cfgA a).N)
    ∧ ∀ j, r.2.mem ((c : Thread nD τ).loc (pre0.ref j)) = a.1 j

/-- The launch memory holds the tables `a`. -/
def Pinned : Prop := ∀ (c : Dev nD) (j : Fin 2), m ((c : Thread nD τ).loc (pre0.ref j)) = a.1 j

set_option backward.isDefEq.respectTransparency.types false in
set_option maxHeartbeats 4000000 in
/-- From a memory holding the tables: every fair execution of @main terminates in `QC`, the semaphores at zero. -/
theorem run_main_quiescent (hp : Pinned a m) : θ_run (defs (F := F)) (onTc (τ := τ) (main (F := F))) ⟨m, fun _ => 0, ρ⟩ (fun r => QC a m r ∧ r.2.sem = fun _ => 0) :=
  Pipeline.θ_run_region_noSem_pf_quiescent pcfgs (fun _ => a) (dats a m) () ((launch0 (F := F)).cellOf_inj fun _ => a) (0 : Fin 1)
    (launch0 (F := F)).win.to₀ (launch0 (F := F)).pre EP defs₀ Variants.none m ρ main
    (hbody := fun c => (body_obligation a m c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m) 0 (launch0 (F := F)).win.arr_inj c (launch0 (F := F)).arr_whole
      (share_eq a m c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi0_intro a m)
    (hout := phiN_exit a m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- `QC` leaves the arguments as they were. -/
theorem QC.args {r} (h : QC a m r) (hp : Pinned a m) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 (0 : Fin 5)).trans ((dats a m 0 c).arrAt_in (0 : Fin 5) rfl _), ((h c).2 0).trans (hp c 0).symm, ((h c).2 1).trans (hp c 1).symm,
    ((h c).1 (1 : Fin 5)).trans ((dats a m 0 c).arrAt_in (1 : Fin 5) rfl _), ((h c).1 (2 : Fin 5)).trans ((dats a m 0 c).arrAt_in (2 : Fin 5) rfl _),
    ((h c).1 (3 : Fin 5)).trans ((dats a m 0 c).arrAt_in (3 : Fin 5) rfl _)⟩

end Cert.Experts

end
-- ==== Proof.ExpertSame.lean ====
/- The experts' kernel at machine floats is the same program as the one the proof reads, so its runs carry over;
   and what the named precondition says of the tables. -/
module

public import proofs.«01_k».proof.Proof.Gen.Kernel2Ideal.Launch
public import proofs.«01_k».proof.Proof.Gen.Kernel2Ideal.Skeleton
public import proofs.«01_k».proof.Proof.Gen.Kernel2
public import proofs.«01_k».proof.Proof.Gen.Pre_experts_named
public import Idealize.ShloMosaic.Lib.Pointwise
public import Idealize.ShloMosaic.Lib.WordCmp
public import proofs.«01_k».proof.Defs

@[expose] public section

set_option maxRecDepth 16384
set_option maxHeartbeats 1000000

noncomputable section

namespace Cert.Experts

open Idealize.ShloMosaic Idealize.ShloMosaic.TcCoe
open Idealize.SL.Sem
attribute [local instance] Cert.Kernel2.Gen.facts Cert.Kernel2Ideal.Gen.facts Cert.Pre_experts_named.Gen.facts

/-- The two entry points agree, -/
theorem same_main : @Cert.Kernel2.main Bits _ _ = @Cert.Kernel2Ideal.main Bits _ _ := rfl

/-- the kernel bodies agree, -/
theorem same_body : @Cert.Kernel2.defs₀ Bits _ _ = @Cert.Kernel2Ideal.defs₀ Bits _ _ := by
  unfold Cert.Kernel2.defs₀ Cert.Kernel2Ideal.defs₀
  refine congrArg (Defs.onTc (nD := Cert.Kernel2.nD) (τ := Cert.Kernel2.τ) (sig := Cert.Kernel2.sig) (Val := Elt Bits) (Λ := Cert.Kernel2.Λ₀)) ?_
  funext ℓ x
  match ℓ, x with
  | 0, (t, s) => rfl

/-- and so do the tables of all procedures. -/
theorem same_defs : @Cert.Kernel2.defs Bits _ _ = @Cert.Kernel2Ideal.defs Bits _ _ := by
  unfold Cert.Kernel2.defs Cert.Kernel2Ideal.defs
  exact congrArg (Pipeline.defs (@Cert.Kernel2Ideal.pcfgs Bits _ _)) same_body

/-- A run of the one is a run of the other. -/
theorem same_run (m : (ℓ : Loc Cert.Kernel2.nD Cert.Kernel2.τ Cert.Kernel2.sig) → Buf (Elt Bits) ℓ) (g : Dev Cert.Kernel2.nD → PrngReg)
    (Q : PUnit × MemSt Cert.Kernel2.nD Cert.Kernel2.τ Cert.Kernel2.sig (Elt Bits) → Prop)
    (h : θ_run (Cert.Kernel2Ideal.defs (F := Bits)) (onTc (τ := Cert.Kernel2Ideal.τ) (Cert.Kernel2Ideal.main (F := Bits))) ⟨m, fun _ => 0, g⟩ Q) :
    θ_run (Cert.Kernel2.defs (F := Bits)) (onTc (τ := Cert.Kernel2.τ) (Cert.Kernel2.main (F := Bits))) ⟨m, fun _ => 0, g⟩ Q := by
  rw [same_defs, same_main]
  exact h

/-- The precondition read at a tile: the table names one of the 32 experts. -/
theorem named {F : FTy → Type} [FloatOps F] (x : FVec F Cert.Pre_experts_named.S43008x1024 .f32) (te : IVec Cert.Pre_experts_named.S168 32) (nt : IVec Cert.Pre_experts_named.S1 32)
    (wg wu : FVec F Cert.Pre_experts_named.S32x1024x512 .f32) (wd : FVec F Cert.Pre_experts_named.S32x512x1024 .f32)
    (h : Cert.Pre_experts_named.fn x te nt wg wu wd = fun _ => 1#1) (i : Cert.Pre_experts_named.S168.Idx) : (te i).toNat < 32 := by
  have h1 : IntOp.andi (IntOp.cmpi .sge (te i) 0#32) (IntOp.cmpi .sle (te i) 31#32) = 1#1 := congrFun h i
  rw [WordCmp.cmpi_sge_eq, WordCmp.cmpi_sle_eq] at h1
  have h2 : (0#32 : BitVec 32).toInt ≤ (te i).toInt ∧ (te i).toInt ≤ (31#32 : BitVec 32).toInt := by
    have key : ∀ p q : Bool, IntOp.andi (BitVec.ofBool p) (BitVec.ofBool q) = 1#1 → p = true ∧ q = true := by decide
    exact ⟨of_decide_eq_true (key _ _ h1).1, of_decide_eq_true (key _ _ h1).2⟩
  have e0 : (0#32 : BitVec 32).toInt = 0 := by decide
  have e31 : (31#32 : BitVec 32).toInt = 31 := by decide
  have e := BitVec.toInt_eq_toNat_cond (te i)
  rw [e0, e31] at h2
  split_ifs at e <;> omega

end Cert.Experts

end
-- ==== Proof.ExpertTables.lean ====
/- The tables the experts' kernel prefetches, taken from the launch memory: they name experts, so every block is inside its array. -/
module

public import proofs.«01_k».proof.Proof.ExpertFrame
public import proofs.«01_k».proof.Proof.ExpertSame

@[expose] public section

set_option maxRecDepth 16384

noncomputable section

namespace Cert.Experts

open Cert.Kernel2Ideal Cert.Kernel2Ideal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The tables in the launch memory. -/
def tables : pre0.Contents (Elt F) := fun j => m (((0 : Dev nD) : Thread nD τ).loc (pre0.ref j))

/-- The expert table. -/
abbrev names : S168.Idx → BitVec 32 := tables (F := F) m 0

/-- The weights' block index at a point. -/
theorem weight_block (i : grid0.Coords) :
    cc0_transform_1 (F := F) k0_off1_inb numel1_S1 (tables m) i = ![(names m (ix1 (n0 := 168) ⟨(i 0).val, coord_lt i⟩)).toNat, 0, 0] := by
  refine Eq.trans ?_ (congrArg (fun v : BitVec 32 => ![v.toNat, 0, 0]) (wTe_eq (F := F) i (names m)))
  rfl

/-- Tables that name experts keep every block inside its array. -/
theorem tables_ok (h : ∀ x, (names m x).toNat < 32) : ok0 (F := F) (tables m) := by
  have h1 : ∀ (i : grid0.Coords) (a : Fin 3), (cc0_transform_1 (F := F) k0_off1_inb numel1_S1 (tables m) i a + 1) * S1x1024x512.size a ≤ S32x1024x512.size a := by
    intro i a
    have hx := h (ix1 (n0 := 168) ⟨(i 0).val, coord_lt i⟩)
    rw [weight_block]
    fin_cases a
    · show (BitVec.toNat _ + 1) * 1 ≤ 32
      omega
    · show (0 + 1) * 1024 ≤ 1024
      omega
    · show (0 + 1) * 512 ≤ 512
      omega
  have h3 : ∀ (i : grid0.Coords) (a : Fin 3), (cc0_transform_1 (F := F) k0_off1_inb numel1_S1 (tables m) i a + 1) * S1x512x1024.size a ≤ S32x512x1024.size a := by
    intro i a
    have hx := h (ix1 (n0 := 168) ⟨(i 0).val, coord_lt i⟩)
    rw [weight_block]
    fin_cases a
    · show (BitVec.toNat _ + 1) * 1 ≤ 32
      omega
    · show (0 + 1) * 512 ≤ 512
      omega
    · show (0 + 1) * 1024 ≤ 1024
      omega
  exact ⟨fun i => ⟨h1 i, .inl rfl⟩, fun i => ⟨h1 i, .inl rfl⟩, fun i => ⟨h3 i, .inl rfl⟩⟩

/-- The admissible tables of a launch. -/
def adm (h : ∀ x, (names m x).toNat < 32) : (pcfg0 (F := F)).Adm := ⟨tables m, tables_ok m h⟩

/-- The launch memory holds them on its only device. -/
theorem pinned (h : ∀ x, (names m x).toNat < 32) : Pinned (adm m h) m := fun c j => by
  rw [Subsingleton.elim (α := Fin 1) c 0]; rfl

/-- From a memory whose table names experts the kernel runs to its end, the arguments unchanged and the semaphores at zero. -/
theorem run_args (h : ∀ x, (names m x).toNat < 32) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run _ _ _).mono (fun _ hr => ⟨fun c => hr.1.args _ _ (pinned m h) c, hr.2⟩) (run_main_quiescent (adm m h) m ρ (pinned m h))

end Cert.Experts

end
-- ==== Proof.ExpertSpec.lean ====
/- The experts' layer over plain functions of the extended reals: what both programs compute, element by element. -/
module

public import Idealize.ShloMosaic.Lib.Pointwise

@[expose] public section

noncomputable section

namespace Cert.ExpertSpec

open Idealize.ShloMosaic

/-- A row times a column of weights. -/
def lin {f : Nat} (x : Fin 1024 → EReal) (w : Fin 1024 → Fin f → EReal) (n : Fin f) : EReal := ∑ k : Fin 1024, x k * w k n

/-- The hidden activation: the gate's swish times the up projection. -/
def hid (x : Fin 1024 → EReal) (wg wu : Fin 1024 → Fin 512 → EReal) (n : Fin 512) : EReal :=
  lin x wg n * Ideal.div 1 (1 + Ideal.exp (0 - lin x wg n)) * lin x wu n

/-- One expert's feed-forward layer at a row. -/
def ffn (x : Fin 1024 → EReal) (wg wu : Fin 1024 → Fin 512 → EReal) (wd : Fin 512 → Fin 1024 → EReal) (j : Fin 1024) : EReal :=
  ∑ n : Fin 512, hid x wg wu n * wd n j

/-- Weights that are one at a single expert pick that expert's term of the sum. -/
theorem pick (e : Fin 32) (f : Fin 32 → EReal) : (∑ k : Fin 32, (if e = k then (1 : EReal) else 0) * f k) = f e := by
  rw [Finset.sum_eq_single e]
  · rw [if_pos rfl, one_mul]
  · intro k _ h; rw [if_neg (Ne.symm h), zero_mul]
  · intro h; exact absurd (Finset.mem_univ e) h

/-- Weights that are zero leave nothing. -/
theorem none_picked (f : Fin 32 → EReal) : (∑ k : Fin 32, (0 : EReal) * f k) = 0 :=
  Finset.sum_eq_zero fun k _ => zero_mul _

end Cert.ExpertSpec

end
-- ==== Proof.ExpertTile.lean ====
/- The experts' payloads read at coordinates: a tile's output block is the feed-forward layer of its rows. -/
module

public import proofs.«01_k».proof.Proof.ExpertSpec
public import proofs.«01_k».proof.Proof.Gen.Kernel2Ideal.Skeleton

@[expose] public section

set_option maxRecDepth 16384

noncomputable section

namespace Cert.Experts

open Cert.Kernel2Ideal Cert.Kernel2Ideal.Gen
open Idealize.ShloMosaic Idealize.ShloMosaic.TcCoe

theorem pay1_apply (v : Vec Ideal S1x1024x512 .f32) (k : Fin 1024) (n : Fin 512) : k0_pay1 v (ix2 k n) = v (ix3 0 k n) := by
  pointwise [k0_pay1]

theorem pay2_apply (v : Vec Ideal S1x1024x512 .f32) (k : Fin 1024) (n : Fin 512) : k0_pay2 v (ix2 k n) = v (ix3 0 k n) := by
  pointwise [k0_pay2]

theorem pay3_apply (v : Vec Ideal S1x512x1024 .f32) (n : Fin 512) (j : Fin 1024) : k0_pay3 v (ix2 n j) = v (ix3 0 n j) := by
  pointwise [k0_pay3]

theorem pay5_apply (r : Fin 256) (j : Fin 1024) : (k0_pay5 : FVec Ideal S256x1024 .f32) (ix2 r j) = 0 := by
  pointwise [k0_pay5]

theorem pay4_apply (x : Vec Ideal S256x1024 .f32) (g u : Vec Ideal S1024x512 .bf16) (d : Vec Ideal S512x1024 .bf16) (r : Fin 256) (j : Fin 1024) :
    k0_pay4 x g u d (ix2 r j)
      = ExpertSpec.ffn (fun k => x (ix2 r k)) (fun k n => g (ix2 k n)) (fun k n => u (ix2 k n)) (fun n j => d (ix2 n j)) j := by
  pointwise [k0_pay4, ExpertSpec.ffn, ExpertSpec.hid, ExpertSpec.lin]

end Cert.Experts

end
-- ==== Proof.ExpertRef.lean ====
/- The experts' reference, named part by part and read at coordinates. -/
module

public import proofs.«01_k».proof.Proof.ExpertSpec
public import proofs.«01_k».proof.Proof.Gen.Reference2Ideal.Run
public import Idealize.ShloMosaic.Lib.WordCmp

@[expose] public section

set_option maxRecDepth 16384

noncomputable section

namespace Cert.Reference2Ideal.Experts

open Cert.Reference2Ideal Cert.Reference2Ideal.Gen
open Idealize.ShloMosaic Idealize.ShloMosaic.TcCoe
open Idealize.SL.Sem

/-- The combining weights, tile by tile. -/
def rWeight (te : IVec S168 32) (nt : IVec S1 32) : FVec Ideal S168x32 .f32 :=
  select (andi (broadcastInDim S168x32 ![0, 1] bcast_S168x1_S168x32_0_1 (broadcastInDim S168x1 ![0] bcast_S168_S168x1_0 (cmpi .slt (iotaInDim S168 32 0) (broadcastInDim S168 ![] bcast_S_S168 (shapeCast _ nt shapeCasts_S1_S_))))) (cmpi .eq (broadcastInDim S168x32 ![0, 1] bcast_S168x1_S168x32_0_1 (broadcastInDim S168x1 ![0] bcast_S168_S168x1_0 te)) (broadcastInDim S168x32 ![0, 1] bcast_S1x32_S168x32_0_1 (broadcastInDim S1x32 ![1] bcast_S32_S1x32_1 (iotaInDim S32 32 0))))) (broadcastInDim S168x32 ![] bcast_S_S168x32 (constant S_ .f32 0x3F800000#32)) (broadcastInDim S168x32 ![] bcast_S_S168x32 (constant S_ .f32 0x00000000#32))

/-- The same, row by row. -/
def rCombine (te : IVec S168 32) (nt : IVec S1 32) : FVec Ideal S43008x32 .f32 :=
  shapeCast _ (broadcastInDim S168x256x32 ![0, 2] bcast_S168x32_S168x256x32_0_2 (rWeight te nt)) shapeCasts_S168x256x32_S43008x32

/-- Every row through a projection of every expert. -/
def rLin (w : FVec Ideal S32x1024x512 .f32) (x : FVec Ideal S43008x1024 .f32) : FVec Ideal S32x43008x512 .f32 :=
  transpose S32x43008x512 [0, 2, 1] (Host.dotGeneral dot_S32x1024x512_S43008x1024_S32x512x43008_1_1_02_0_n_n none w x) transposes_S32x512x43008_S32x43008x512_0_2_1

/-- The hidden activations. -/
def rHid (x : FVec Ideal S43008x1024 .f32) (wg wu : FVec Ideal S32x1024x512 .f32) : FVec Ideal S32x43008x512 .f32 :=
  mulf (mulf (rLin wg x) (Host.divf (broadcastInDim S32x43008x512 ![] bcast_S_S32x43008x512 (constant S_ .f32 0x3F800000#32)) (addf (broadcastInDim S32x43008x512 ![] bcast_S_S32x43008x512 (constant S_ .f32 0x3F800000#32)) (Host.exp (Host.negf (rLin wg x)))))) (rLin wu x)

/-- Every row through every expert. -/
def rFfn (x : FVec Ideal S43008x1024 .f32) (wg wu : FVec Ideal S32x1024x512 .f32) (wd : FVec Ideal S32x512x1024 .f32) : FVec Ideal S32x43008x1024 .f32 :=
  Host.dotGeneral dot_S32x43008x512_S32x512x1024_S32x43008x1024_2_1_1_2_0_0 none (rHid x wg wu) wd

/-- The weighted sum over the experts. -/
def rRes (x : FVec Ideal S43008x1024 .f32) (te : IVec S168 32) (nt : IVec S1 32) (wg wu : FVec Ideal S32x1024x512 .f32) (wd : FVec Ideal S32x512x1024 .f32) : FVec Ideal S43008x1024 .f32 :=
  Host.dotGeneral dot_S43008x32_S32x43008x1024_S43008x1024_1_0_n_2_0_1 none (rCombine te nt) (rFfn x wg wu wd)

theorem rLin_apply (w : FVec Ideal S32x1024x512 .f32) (x : FVec Ideal S43008x1024 .f32) (e : Fin 32) (r : Fin 43008) (n : Fin 512) :
    rLin w x (ix3 e r n) = ExpertSpec.lin (fun k => x (ix2 r k)) (fun k n => w (ix3 e k n)) n := by
  have h : rLin w x (ix3 e r n) = ∑ k : Fin 1024, w (ix3 e k n) * x (ix2 r k) := by
    pointwise [rLin]
  rw [h]; unfold ExpertSpec.lin
  exact Finset.sum_congr rfl fun k _ => mul_comm _ _

theorem rHid_apply (x : FVec Ideal S43008x1024 .f32) (wg wu : FVec Ideal S32x1024x512 .f32) (e : Fin 32) (r : Fin 43008) (n : Fin 512) :
    rHid x wg wu (ix3 e r n) = ExpertSpec.hid (fun k => x (ix2 r k)) (fun k n => wg (ix3 e k n)) (fun k n => wu (ix3 e k n)) n := by
  have h : ∀ G U : FVec Ideal S32x43008x512 .f32,
      mulf (mulf G (Host.divf (broadcastInDim S32x43008x512 ![] bcast_S_S32x43008x512 (constant S_ .f32 0x3F800000#32)) (addf (broadcastInDim S32x43008x512 ![] bcast_S_S32x43008x512 (constant S_ .f32 0x3F800000#32)) (Host.exp (Host.negf G))))) U (ix3 e r n)
        = G (ix3 e r n) * Ideal.div 1 (1 + Ideal.exp (0 - G (ix3 e r n))) * U (ix3 e r n) := by
    intro G U
    have e : (0 : EReal) - G (ix3 e r n) = -G (ix3 e r n) := by rw [sub_eq_add_neg, zero_add]
    rw [e]
    pointwise
  unfold rHid
  rw [h, rLin_apply, rLin_apply]
  rfl

theorem rFfn_apply (x : FVec Ideal S43008x1024 .f32) (wg wu : FVec Ideal S32x1024x512 .f32) (wd : FVec Ideal S32x512x1024 .f32) (e : Fin 32) (r : Fin 43008) (j : Fin 1024) :
    rFfn x wg wu wd (ix3 e r j)
      = ExpertSpec.ffn (fun k => x (ix2 r k)) (fun k n => wg (ix3 e k n)) (fun k n => wu (ix3 e k n)) (fun n j => wd (ix3 e n j)) j := by
  have h : ∀ H : FVec Ideal S32x43008x512 .f32,
      Host.dotGeneral dot_S32x43008x512_S32x512x1024_S32x43008x1024_2_1_1_2_0_0 none H wd (ix3 e r j) = ∑ n : Fin 512, H (ix3 e r n) * wd (ix3 e n j) := by
    intro H
    pointwise
  unfold rFfn
  rw [h]; unfold ExpertSpec.ffn
  exact Finset.sum_congr rfl fun n _ => by rw [rHid_apply]

theorem rCombine_apply (te : IVec S168 32) (nt : IVec S1 32) (r : Fin 43008) (e : Fin 32) :
    rCombine te nt (ix2 r e) = rWeight te nt (ix2 ⟨r / 256, by omega⟩ e) := by
  pointwise [rCombine]

/-- The weight is one at the tile's expert while the tile is live, zero elsewhere. -/
theorem rWeight_apply (te : IVec S168 32) (nt : IVec S1 32) (t : Fin 168) (e : Fin 32) :
    rWeight te nt (ix2 t e)
      = if ((t.val : Int) < (nt (ix1 0)).toInt) ∧ te (ix1 t) = BitVec.ofNat 32 e.val then (1 : EReal) else 0 := by
  have h : rWeight te nt (ix2 t e)
      = Scalar.select (IntOp.andi (IntOp.cmpi .slt (BitVec.ofNat 32 t.val) (nt (ix1 0))) (IntOp.cmpi .eq (te (ix1 t)) (BitVec.ofNat 32 e.val))) (1 : EReal) 0 := by
    pointwise [rWeight]
  have ht : (BitVec.ofNat 32 t.val).toInt = (t.val : Int) := by
    have h1 : (BitVec.ofNat 32 t.val).toNat = t.val := by rw [BitVec.toNat_ofNat]; omega
    rw [BitVec.toInt_eq_toNat_of_lt (by omega), h1]
  rw [h, WordCmp.cmpi_slt_eq, WordCmp.cmpi_eq_eq, ht]
  by_cases h1 : (t.val : Int) < (nt (ix1 0)).toInt <;> by_cases h2 : te (ix1 t) = BitVec.ofNat 32 e.val <;>
    simp [h1, h2, Scalar.select, IntOp.andi]

theorem rRes_apply (x : FVec Ideal S43008x1024 .f32) (te : IVec S168 32) (nt : IVec S1 32) (wg wu : FVec Ideal S32x1024x512 .f32) (wd : FVec Ideal S32x512x1024 .f32)
    (r : Fin 43008) (j : Fin 1024) :
    rRes x te nt wg wu wd (ix2 r j) = ∑ e : Fin 32, rCombine te nt (ix2 r e) * rFfn x wg wu wd (ix3 e r j) := by
  have h : ∀ (C : FVec Ideal S43008x32 .f32) (Y : FVec Ideal S32x43008x1024 .f32),
      Host.dotGeneral dot_S43008x32_S32x43008x1024_S43008x1024_1_0_n_2_0_1 none C Y (ix2 r j) = ∑ e : Fin 32, C (ix2 r e) * Y (ix3 e r j) := by
    intro C Y
    pointwise
  exact h _ _

/-- The result at a row: its tile's expert's feed-forward layer if the tile is live, zero if not. -/
theorem rRes_eq (x : FVec Ideal S43008x1024 .f32) (te : IVec S168 32) (nt : IVec S1 32) (wg wu : FVec Ideal S32x1024x512 .f32) (wd : FVec Ideal S32x512x1024 .f32)
    (r : Fin 43008) (j : Fin 1024) (t : Fin 168) (ht : r.val / 256 = t.val) (h : (te (ix1 t)).toNat < 32) :
    rRes x te nt wg wu wd (ix2 r j)
      = if (t.val : Int) < (nt (ix1 0)).toInt then
          ExpertSpec.ffn (fun k => x (ix2 r k)) (fun k n => wg (ix3 ⟨(te (ix1 t)).toNat, h⟩ k n)) (fun k n => wu (ix3 ⟨(te (ix1 t)).toNat, h⟩ k n))
            (fun n j => wd (ix3 ⟨(te (ix1 t)).toNat, h⟩ n j)) j
        else 0 := by
  have et : (⟨r.val / 256, by omega⟩ : Fin 168) = t := Fin.ext ht
  have ee : ∀ e : Fin 32, te (ix1 t) = BitVec.ofNat 32 e.val ↔ (⟨(te (ix1 t)).toNat, h⟩ : Fin 32) = e := fun e => by
    constructor
    · intro q; apply Fin.ext; show (te (ix1 t)).toNat = e.val; rw [q, BitVec.toNat_ofNat]; omega
    · intro q; rw [← q]; exact BitVec.eq_of_toNat_eq (by rw [BitVec.toNat_ofNat]; exact (Nat.mod_eq_of_lt (te (ix1 t)).isLt).symm)
  rw [rRes_apply]
  split_ifs with hl
  · refine Eq.trans (Finset.sum_congr rfl fun e _ => ?_)
      (ExpertSpec.pick ⟨(te (ix1 t)).toNat, h⟩ fun e =>
        ExpertSpec.ffn (fun k => x (ix2 r k)) (fun k n => wg (ix3 e k n)) (fun k n => wu (ix3 e k n)) (fun n j => wd (ix3 e n j)) j)
    rw [rCombine_apply, rFfn_apply, et, rWeight_apply]
    congr 1
    exact if_congr ((and_iff_right hl).trans (ee e)) rfl rfl
  · refine Eq.trans (Finset.sum_congr rfl fun e _ => ?_) (ExpertSpec.none_picked fun e => rFfn x wg wu wd (ix3 e r j))
    rw [rCombine_apply, et, rWeight_apply, if_neg fun q => hl q.1]

variable (m : (ℓ : Loc nD τ sig) → Buf (Elt Ideal) ℓ) (g : Dev nD → PrngReg)

/-- The reference runs: its result is the named array of its arguments, which end unchanged. -/
theorem ref_run :
    θ_run (defs (F := Ideal)) (onTc (τ := τ) (main (F := Ideal))) ⟨m, fun _ => 0, g⟩ (fun r => ∀ c : Dev nD,
      r.2.mem ((c.tc : Thread nD τ).loc main_v23)
          = rRes (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  have h := Value.run m g
  exact h

end Cert.Reference2Ideal.Experts

end
-- ==== Proof.ExpertValue.lean ====
/- The experts' output array: what the kernel leaves is the reference's weighted sum, element by element. -/
module

public import proofs.«01_k».proof.Proof.ExpertFrame
public import proofs.«01_k».proof.Proof.ExpertTile
public import proofs.«01_k».proof.Proof.ExpertRef
public import Idealize.ShloMosaic.Lib.Pipeline.ValueKit
public import Idealize.ShloMosaic.Lib.Pointwise

@[expose] public section

set_option maxRecDepth 16384

noncomputable section

namespace Cert.Experts

open Cert.Kernel2Ideal Cert.Kernel2Ideal.Gen
open Idealize.ShloMosaic Idealize.ShloMosaic.TcCoe
open Idealize.SL.Sem
open Idealize.ShloMosaic.Pipeline (Dat Cfg Window)

variable (a : (pcfg0 (F := Ideal)).Adm) (m : (ℓ : Loc nD τ sig) → Buf (Elt Ideal) ℓ)

abbrev mX (c : Dev nD) : FVec Ideal S43008x1024 .f32 := m ((c.tc : Thread nD τ).loc main_arg0)
abbrev mG (c : Dev nD) : FVec Ideal S32x1024x512 .f32 := m ((c.tc : Thread nD τ).loc main_arg3)
abbrev mU (c : Dev nD) : FVec Ideal S32x1024x512 .f32 := m ((c.tc : Thread nD τ).loc main_arg4)
abbrev mD (c : Dev nD) : FVec Ideal S32x512x1024 .f32 := m ((c.tc : Thread nD τ).loc main_arg5)

/-- The tile of a point. -/
abbrev tile (t : Fin (cfgA a).N) : Fin 168 := ⟨(crd a t 0).val, coord_lt (crd a t)⟩

/-- A point's coordinate read back from its word. -/
theorem word_tile (t : Fin (cfgA a).N) : (BitVec.ofNat 32 (crd a t 0).val).toNat = (tile a t).val := by
  have h := (tile a t).isLt
  rw [BitVec.toNat_ofNat]
  exact Nat.mod_eq_of_lt (by show (tile a t).val < _; omega)

/-- The rows of a tile. -/
theorem iblk_x (c : Dev nD) (t : Fin (cfgA a).N) (r : Fin 256) (k : Fin 1024) :
    iblk a m c (0 : Fin 5) t (ix2 r k) = mX m c (ix2 ⟨(tile a t).val * 256 + r.val, by have := (tile a t).isLt; omega⟩ k) := by
  unfold iblk
  show m _ _ = m _ _
  congr 1; funext d; apply Fin.ext
  show cc0_transform_0 (crd a t) d * S256x1024.size d + 1 * ((ix2 r k : S256x1024.Idx) d).val = _
  fin_cases d
  · show (BitVec.ofNat 32 (crd a t 0).val).toNat * 256 + 1 * r.val = (tile a t).val * 256 + r.val
    rw [word_tile]; omega
  · show 0 * 1024 + 1 * k.val = k.val
    omega

/-- An expert's gate weights. -/
theorem iblk_g (c : Dev nD) (t : Fin (cfgA a).N) (h : (T0 a (ix1 (tile a t))).toNat < 32) (k : Fin 1024) (n : Fin 512) :
    iblk a m c (1 : Fin 5) t (ix3 0 k n) = mG m c (ix3 ⟨_, h⟩ k n) := by
  have h1 : cc0_transform_1 (F := Ideal) k0_off1_inb numel1_S1 a.1 (crd a t) = ![(T0 a (ix1 (tile a t))).toNat, 0, 0] := by
    refine Eq.trans ?_ (congrArg (fun v : BitVec 32 => ![v.toNat, 0, 0]) (wTe_eq (F := Ideal) (crd a t) (T0 a)))
    rfl
  unfold iblk
  show m _ _ = m _ _
  congr 1; funext d; apply Fin.ext
  show cc0_transform_1 (F := Ideal) k0_off1_inb numel1_S1 a.1 (crd a t) d * S1x1024x512.size d + 1 * ((ix3 0 k n : S1x1024x512.Idx) d).val = _
  rw [h1]
  fin_cases d
  · show (T0 a (ix1 (tile a t))).toNat * 1 + 1 * 0 = (T0 a (ix1 (tile a t))).toNat
    omega
  · show 0 * 1024 + 1 * k.val = k.val
    omega
  · show 0 * 512 + 1 * n.val = n.val
    omega

/-- An expert's up weights. -/
theorem iblk_u (c : Dev nD) (t : Fin (cfgA a).N) (h : (T0 a (ix1 (tile a t))).toNat < 32) (k : Fin 1024) (n : Fin 512) :
    iblk a m c (2 : Fin 5) t (ix3 0 k n) = mU m c (ix3 ⟨_, h⟩ k n) := by
  have h1 : cc0_transform_2 (F := Ideal) k0_off1_inb numel1_S1 a.1 (crd a t) = ![(T0 a (ix1 (tile a t))).toNat, 0, 0] := by
    refine Eq.trans ?_ (congrArg (fun v : BitVec 32 => ![v.toNat, 0, 0]) (wTe_eq (F := Ideal) (crd a t) (T0 a)))
    rfl
  unfold iblk
  show m _ _ = m _ _
  congr 1; funext d; apply Fin.ext
  show cc0_transform_2 (F := Ideal) k0_off1_inb numel1_S1 a.1 (crd a t) d * S1x1024x512.size d + 1 * ((ix3 0 k n : S1x1024x512.Idx) d).val = _
  rw [h1]
  fin_cases d
  · show (T0 a (ix1 (tile a t))).toNat * 1 + 1 * 0 = (T0 a (ix1 (tile a t))).toNat
    omega
  · show 0 * 1024 + 1 * k.val = k.val
    omega
  · show 0 * 512 + 1 * n.val = n.val
    omega

/-- An expert's down weights. -/
theorem iblk_d (c : Dev nD) (t : Fin (cfgA a).N) (h : (T0 a (ix1 (tile a t))).toNat < 32) (n : Fin 512) (j : Fin 1024) :
    iblk a m c (3 : Fin 5) t (ix3 0 n j) = mD m c (ix3 ⟨_, h⟩ n j) := by
  have h1 : cc0_transform_3 (F := Ideal) k0_off1_inb numel1_S1 a.1 (crd a t) = ![(T0 a (ix1 (tile a t))).toNat, 0, 0] := by
    refine Eq.trans ?_ (congrArg (fun v : BitVec 32 => ![v.toNat, 0, 0]) (wTe_eq (F := Ideal) (crd a t) (T0 a)))
    rfl
  unfold iblk
  show m _ _ = m _ _
  congr 1; funext d; apply Fin.ext
  show cc0_transform_3 (F := Ideal) k0_off1_inb numel1_S1 a.1 (crd a t) d * S1x512x1024.size d + 1 * ((ix3 0 n j : S1x512x1024.Idx) d).val = _
  rw [h1]
  fin_cases d
  · show (T0 a (ix1 (tile a t))).toNat * 1 + 1 * 0 = (T0 a (ix1 (tile a t))).toNat
    omega
  · show 0 * 512 + 1 * n.val = n.val
    omega
  · show 0 * 1024 + 1 * j.val = j.val
    omega

/-- The array the reference computes of the kernel's arguments. -/
def oArr (c : Dev nD) : FVec Ideal S43008x1024 .f32 :=
  Reference2Ideal.Experts.rRes (mX m c) (T0 a) (T1 a) (mG m c) (mU m c) (mD m c)

/-- A tile's output block is the reference's rows. -/
theorem outB_apply (hT : ∀ t : Fin 168, (T0 a (ix1 t)).toNat < 32) (c : Dev nD) (t : Fin (cfgA a).N) (r : Fin 256) (j : Fin 1024) :
    outB a m c t (ix2 r j) = oArr a m c (ix2 ⟨(tile a t).val * 256 + r.val, by have := (tile a t).isLt; omega⟩ j) := by
  unfold oArr
  rw [Reference2Ideal.Experts.rRes_eq _ _ _ _ _ _ _ _ (tile a t) (by show ((tile a t).val * 256 + r.val) / 256 = _; omega) (hT _)]
  have hl : live a t ↔ ((tile a t).val : Int) < (T1 a (ix1 0)).toInt := by
    refine (cond1_iff (crd a t) (wNt (F := Ideal) (T1 a))).trans ?_
    rw [wNt_eq]
  unfold outB
  by_cases h : live a t
  · rw [if_pos h, if_pos (hl.1 h)]
    refine (pay4_apply _ _ _ _ r j).trans ?_
    congr 1
    · funext k; exact iblk_x a m c t r k
    · funext k n; exact (pay1_apply _ k n).trans (iblk_g a m c t (hT _) k n)
    · funext k n; exact (pay2_apply _ k n).trans (iblk_u a m c t (hT _) k n)
    · funext n j; exact (pay3_apply _ n j).trans (iblk_d a m c t (hT _) n j)
  · rw [if_neg h, if_neg fun q => h (hl.2 q)]
    exact pay5_apply r j

/-- Every point ends its output block. -/
theorem flush_4 : ∀ t : Fin grid0.N, (true && (t.val + 1 = grid0.N || decide (∃ h : t.val + 1 < grid0.N, cc0_transform_4 (grid0.coords ⟨t.val + 1, h⟩) ≠ cc0_transform_4 (grid0.coords t)))) = true := by
  decide +kernel

/-- Point `t`'s output block is block `t` of the rows. -/
theorem index_4 : ∀ t : Fin grid0.N, cc0_transform_4 (grid0.coords t) = ![t.val, 0] := by
  decide +kernel

theorem covers_4 : ((cfgA a).win (4 : Fin 5)).Covers := by
  have n0 : ((cfgA a).win (4 : Fin 5)).nblk (0 : Fin 2) = 168 := by
    show (43008 + 256 - 1) / 256 = 168
    norm_num
  have n1 : ((cfgA a).win (4 : Fin 5)).nblk (1 : Fin 2) = 1 := by
    show (1024 + 1024 - 1) / 1024 = 1
    norm_num
  refine ⟨fun d => ?_, fun β => ⟨⟨(β (0 : Fin 2)).val, lt_of_lt_of_eq (β (0 : Fin 2)).isLt n0⟩, flush_4 _, fun d => ⟨?_, .inl rfl⟩⟩⟩
  · fin_cases d
    · exact (Nat.succ_pos 255 : 0 < 256)
    · exact (Nat.succ_pos 1023 : 0 < 1024)
  · refine (congrFun (index_4 _) d).trans ?_
    fin_cases d
    · rfl
    · exact (Nat.lt_one_iff.1 (lt_of_lt_of_eq (β (1 : Fin 2)).isLt n1)).symm

/-- Where an output block's cell lies in the array. -/
theorem emb_4 (t : Fin (cfgA a).N) (r : Fin 256) (j : Fin 1024) :
    (((cfgA a).win (4 : Fin 5)).blk t).view.emb (ix2 r j : S256x1024.Idx)
      = (ix2 ⟨(tile a t).val * 256 + r.val, by have := (tile a t).isLt; omega⟩ j : S43008x1024.Idx) := by
  funext d; apply Fin.ext
  show cc0_transform_4 (crd a t) d * S256x1024.size d + 1 * ((ix2 r j : S256x1024.Idx) d).val = _
  fin_cases d
  · show (BitVec.ofNat 32 (crd a t 0).val).toNat * 256 + 1 * r.val = (tile a t).val * 256 + r.val
    rw [word_tile]; omega
  · show 0 * 1024 + 1 * j.val = j.val
    omega

/-- The output array after the run is the reference's. -/
theorem final_4 (hT : ∀ t : Fin 168, (T0 a (ix1 t)).toNat < 32) (c : Dev nD) : (dats a m 0 c).arrAt (4 : Fin 5) (cfgA a).N = oArr a m c := by
  refine (dats a m 0 c).arrAt_eq_of_covers (4 : Fin 5) (oArr a m c) (covers_4 a) fun t _ y => ?_
  have ey : y = (ix2 (y 0) (y 1) : S256x1024.Idx) := by funext d; fin_cases d <;> rfl
  rw [after_4]
  refine Eq.trans (congrArg (outB a m c t) ey) ?_
  refine (outB_apply a m hT c t (y 0) (y 1)).trans ?_
  exact congrArg (oArr a m c) ((emb_4 a t (y 0) (y 1)).symm.trans (congrArg _ ey.symm))

end Cert.Experts

end
-- ==== Proof.StepRun.lean ====
/- The run of the decoding step: from any memory, @main ends with each result array at the contents of the last
   boundary, and every argument as launched. -/
module

public import proofs.«01_k».proof.Proof.Gen.KernelIdeal.Frame
public import Idealize.ShloMosaic.Lib.Pointwise

@[expose] public section

set_option maxRecDepth 16384

noncomputable section

namespace Cert.KernelIdeal.Gen

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every weakly fair run of @main ends with the four results at the last boundary's contents, the arguments unchanged. -/
theorem run_step : θ_run defs (onTc (τ := τ) (main (F := Ideal))) ⟨m, fun _ => 0, ρ⟩ (fun r => ∀ c : Dev nD,
      r.2.mem ((c.tc : Thread nD τ).loc main_v21) = W7 m ρ c main_v21
      ∧ r.2.mem ((c.tc : Thread nD τ).loc main_v22) = W7 m ρ c main_v22
      ∧ r.2.mem ((c.tc : Thread nD τ).loc main_v20_0) = W7 m ρ c main_v20_0
      ∧ r.2.mem ((c.tc : Thread nD τ).loc main_v20_1) = W7 m ρ c main_v20_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h _ => fun c =>
      ⟨h c _ (mem_uc main_v21 (by decide)),
       h c _ (mem_uc main_v22 (by decide)),
       h c _ (mem_uc main_v20_0 (by decide)),
       h c _ (mem_uc main_v20_1 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c),
       (h c _ (mem_uc main_arg13 (by decide))).trans (W7_main_arg13 m ρ c),
       (h c _ (mem_uc main_arg14 (by decide))).trans (W7_main_arg14 m ρ c),
       (h c _ (mem_uc main_arg15 (by decide))).trans (W7_main_arg15 m ρ c),
       (h c _ (mem_uc main_arg16 (by decide))).trans (W7_main_arg16 m ρ c),
       (h c _ (mem_uc main_arg17 (by decide))).trans (W7_main_arg17 m ρ c)⟩)

end Cert.KernelIdeal.Gen

end
-- ==== Proof.StepTile.lean ====
/- One head's tile of the recurrent state, one row of the block at a time: the kernel picks a row of the gates and of the
   values with a one-hot mask under a product over the block's 8 rows. Read at an element, such a product is the picked
   row's entry. -/
module

public import proofs.«01_k».proof.Proof.Gen.KernelIdeal.Skeleton
public import Idealize.ShloMosaic.Lib.Pointwise

@[expose] public section

set_option maxRecDepth 16384

noncomputable section

namespace Cert.KernelIdeal.Step

open Cert.KernelIdeal Cert.KernelIdeal.Gen
open Idealize.ShloMosaic Idealize.ShloMosaic.TcCoe
open Idealize.SL.Sem

/-- The mask of row `rb` of a block of 8 rows and 128 lanes. -/
def rowMask (rb : BitVec 32) : IVec S8x128 1 :=
  cmpi .eq (iota .tc S8x128 32 [0] iota_S8x128_d0_w32) (broadcast S8x128 rb)

/-- The new state of the head at lanes `off …` of row `rb`: the old one times the row's gates, plus the row's keys times values. -/
def tile (off : ℕ) (hs : S8x1024.Slices ![0, off] S8x128) (rb : BitVec 32) (fg kf v : FVec Ideal S8x1024 .f32)
    (s : FVec Ideal S1x1x128x128 .f32) : FVec Ideal S128x128 .f32 :=
  addf (mulf (matmul (F := Ideal) dot_S8x128_S8x128_S128x128_0_0_1_1_n_n (some .fp32) (extractStridedSlice S8x128 ![0, off] fg hs)
      (select (rowMask rb) (broadcast S8x128 (Scalar.ofBits (F := Ideal) .f32 0x3F800000#32)) (broadcast S8x128 (Scalar.ofBits (F := Ideal) .f32 0x00000000#32)))
      (constant S128x128 .f32 0x00000000#32)) (shapeCast S128x128 s shapeCasts_S1x1x128x128_S128x128))
    (matmul (F := Ideal) dot_S8x128_S8x128_S128x128_0_0_1_1_n_n (some .fp32) (extractStridedSlice S8x128 ![0, off] kf hs)
      (select (rowMask rb) (extractStridedSlice S8x128 ![0, off] v hs) (broadcast S8x128 (Scalar.ofBits (F := Ideal) .f32 0x00000000#32)))
      (constant S128x128 .f32 0x00000000#32))

/-- A sum over the rows of terms that vanish off row `r` is row `r`'s term. -/
theorem sum_row (r : Fin 8) (f : Fin 8 → EReal) :
    (∑ k : Fin 8, Scalar.select (IntOp.cmpi .eq (BitVec.ofNat 32 (k : ℕ)) (BitVec.ofNat 32 (r : ℕ))) (f k) (0 : EReal)) = f r := by
  rw [Finset.sum_eq_single r]
  · simp [Scalar.select, IntOp.cmpi]
  · intro b _ hb
    have : ¬ (BitVec.ofNat 32 (b : ℕ) = BitVec.ofNat 32 (r : ℕ)) := by
      intro h; apply hb; have := congrArg BitVec.toNat h
      simp at this; omega
    exact if_neg (by simp only [IntOp.cmpi, beq_eq_false_iff_ne.2 this]; decide)
  · intro h; exact absurd (Finset.mem_univ _) h

theorem tile_apply (off : ℕ) (hs : S8x1024.Slices ![0, off] S8x128) (ho : off + 128 ≤ 1024) (r : Fin 8) (fg kf v : FVec Ideal S8x1024 .f32)
    (s : FVec Ideal S1x1x128x128 .f32) (i j : Fin 128) :
    tile off hs (BitVec.ofNat 32 (r : ℕ)) fg kf v s (ix2 i j)
      = fg (ix2 r ⟨off + i, by omega⟩) * s (ix4 0 0 i j) + kf (ix2 r ⟨off + i, by omega⟩) * v (ix2 r ⟨off + j, by omega⟩) := by
  pointwise [tile, rowMask]
  exact congrArg₂ (· + ·) (congrArg (· * _) (sum_row r _)) (sum_row r _)

/-- What the row adds to the head's output: its queries times the new state, on row `rb` alone. -/
def rowOut (off : ℕ) (hs : S8x1024.Slices ![0, off] S8x128) (rb : BitVec 32) (qf fg kf v : FVec Ideal S8x1024 .f32)
    (s : FVec Ideal S1x1x128x128 .f32) : FVec Ideal S8x128 .f32 :=
  matmul (F := Ideal) dot_S8x128_S128x128_S8x128_1_0_0_1_n_n (some .fp32)
    (select (rowMask rb) (extractStridedSlice S8x128 ![0, off] qf hs) (broadcast S8x128 (Scalar.ofBits (F := Ideal) .f32 0x00000000#32)))
    (tile off hs rb fg kf v s) (constant S8x128 .f32 0x00000000#32)

/-- On its own row it is the contraction of the queries with the new state; -/
theorem rowOut_self (off : ℕ) (hs : S8x1024.Slices ![0, off] S8x128) (ho : off + 128 ≤ 1024) (r : Fin 8) (qf fg kf v : FVec Ideal S8x1024 .f32)
    (s : FVec Ideal S1x1x128x128 .f32) (j : Fin 128) :
    rowOut off hs (BitVec.ofNat 32 (r : ℕ)) qf fg kf v s (ix2 r j)
      = ∑ d : Fin 128, qf (ix2 r ⟨off + d, by omega⟩) * (fg (ix2 r ⟨off + d, by omega⟩) * s (ix4 0 0 d j)
          + kf (ix2 r ⟨off + d, by omega⟩) * v (ix2 r ⟨off + j, by omega⟩)) := by
  pointwise [rowOut, rowMask]
  refine Finset.sum_congr rfl fun d _ => ?_
  exact congrArg (qf (ix2 r ⟨off + d, by omega⟩) * ·) (tile_apply off hs ho r fg kf v s d j)

/-- on another row it is zero. -/
theorem rowOut_ne (off : ℕ) (hs : S8x1024.Slices ![0, off] S8x128) (r k : Fin 8) (hk : k ≠ r) (qf fg kf v : FVec Ideal S8x1024 .f32)
    (s : FVec Ideal S1x1x128x128 .f32) (j : Fin 128) :
    rowOut off hs (BitVec.ofNat 32 (r : ℕ)) qf fg kf v s (ix2 k j) = 0 := by
  pointwise [rowOut, rowMask]
  refine Finset.sum_eq_zero fun d _ => ?_
  have : ¬ (BitVec.ofNat 32 (k : ℕ) = BitVec.ofNat 32 (r : ℕ)) := by
    intro h; apply hk; have := congrArg BitVec.toNat h
    simp at this; omega
  exact if_neg (by simp only [IntOp.cmpi, beq_eq_false_iff_ne.2 this]; decide)

/-- The eight rows' contributions, added from row 0 on. -/
def rowsOut (off : ℕ) (hs : S8x1024.Slices ![0, off] S8x128) (qf fg kf v : FVec Ideal S8x1024 .f32)
    (s0 s1 s2 s3 s4 s5 s6 s7 : FVec Ideal S1x1x128x128 .f32) : FVec Ideal S8x128 .f32 :=
  addf (addf (addf (addf (addf (addf (addf (addf (broadcast S8x128 (Scalar.ofBits (F := Ideal) .f32 0x00000000#32))
    (rowOut off hs 0#32 qf fg kf v s0)) (rowOut off hs 1#32 qf fg kf v s1)) (rowOut off hs 2#32 qf fg kf v s2))
    (rowOut off hs 3#32 qf fg kf v s3)) (rowOut off hs 4#32 qf fg kf v s4)) (rowOut off hs 5#32 qf fg kf v s5))
    (rowOut off hs 6#32 qf fg kf v s6)) (rowOut off hs 7#32 qf fg kf v s7)

/-- The head's output at row `k`. -/
def headOut (off : ℕ) (ho : off + 128 ≤ 1024) (qf fg kf v : FVec Ideal S8x1024 .f32)
    (s : Fin 8 → FVec Ideal S1x1x128x128 .f32) (k : Fin 8) (j : Fin 128) : EReal :=
  ∑ d : Fin 128, qf (ix2 k ⟨off + d, by omega⟩) * (fg (ix2 k ⟨off + d, by omega⟩) * s k (ix4 0 0 d j)
          + kf (ix2 k ⟨off + d, by omega⟩) * v (ix2 k ⟨off + j, by omega⟩))

theorem rowsOut_apply (off : ℕ) (hs : S8x1024.Slices ![0, off] S8x128) (ho : off + 128 ≤ 1024) (qf fg kf v : FVec Ideal S8x1024 .f32)
    (s : Fin 8 → FVec Ideal S1x1x128x128 .f32) (k : Fin 8) (j : Fin 128) :
    rowsOut off hs qf fg kf v (s 0) (s 1) (s 2) (s 3) (s 4) (s 5) (s 6) (s 7) (ix2 k j) = headOut off ho qf fg kf v s k j := by
  have e : ∀ r : Fin 8, rowOut off hs (BitVec.ofNat 32 (r : ℕ)) qf fg kf v (s r) (ix2 k j)
      = if k = r then headOut off ho qf fg kf v s k j else 0 := by
    intro r
    by_cases h : k = r
    · subst h; rw [if_pos rfl]; exact rowOut_self off hs ho k qf fg kf v (s k) j
    · rw [if_neg h]; exact rowOut_ne off hs r k h qf fg kf v (s r) j
  have z : rowsOut off hs qf fg kf v (s 0) (s 1) (s 2) (s 3) (s 4) (s 5) (s 6) (s 7) (ix2 k j)
      = 0 + rowOut off hs 0#32 qf fg kf v (s 0) (ix2 k j) + rowOut off hs 1#32 qf fg kf v (s 1) (ix2 k j)
        + rowOut off hs 2#32 qf fg kf v (s 2) (ix2 k j) + rowOut off hs 3#32 qf fg kf v (s 3) (ix2 k j)
        + rowOut off hs 4#32 qf fg kf v (s 4) (ix2 k j) + rowOut off hs 5#32 qf fg kf v (s 5) (ix2 k j)
        + rowOut off hs 6#32 qf fg kf v (s 6) (ix2 k j) + rowOut off hs 7#32 qf fg kf v (s 7) (ix2 k j) := by
    pointwise [rowsOut]
  have e0 := e 0; have e1 := e 1; have e2 := e 2; have e3 := e 3
  have e4 := e 4; have e5 := e 5; have e6 := e 6; have e7 := e 7
  refine z.trans ((congrArg₂ (· + ·) (congrArg₂ (· + ·) (congrArg₂ (· + ·) (congrArg₂ (· + ·) (congrArg₂ (· + ·) (congrArg₂ (· + ·)
    (congrArg₂ (· + ·) (congrArg (0 + ·) e0) e1) e2) e3) e4) e5) e6) e7).trans ?_)
  fin_cases k <;> simp

/-- A head's output normalised over its lanes and scaled. -/
def headNorm (o : FVec Ideal S8x128 .f32) (g : FVec Ideal S1x128 .f32) : FVec Ideal S8x128 .f32 :=
  mulf (mulf o (broadcastTo S8x128 (rsqrt (addf (divf (shapeCast S8x1 (multiReduction .add [1] S8 (mulf o o) 0x00000000#32 reduces_S8x128_S8 (.inl rfl) rfl) shapeCasts_S8_S8x1)
    (broadcast S8x1 (Scalar.ofBits (F := Ideal) .f32 0x43000000#32))) (broadcast S8x1 (Scalar.ofBits (F := Ideal) .f32 0x358637BD#32)))) broadcasts_S8x1_S8x128))
    (broadcastTo S8x128 g broadcasts_S1x128_S8x128)

theorem headNorm_apply (o : FVec Ideal S8x128 .f32) (g : FVec Ideal S1x128 .f32) (k : Fin 8) (j : Fin 128) :
    headNorm o g (ix2 k j) = o (ix2 k j) * Ideal.rsqrt (Ideal.div (∑ x : Fin 128, o (ix2 k x) * o (ix2 k x)) (Ideal.ofBits .f32 0x43000000#32)
      + Ideal.ofBits .f32 0x358637BD#32) * g (ix2 0 j) := by
  pointwise [headNorm]

end Cert.KernelIdeal.Step

end
-- ==== Proof.StepBlock.lean ====
/- What one block of the recurrence leaves, at coordinates. -/
module

public import proofs.«01_k».proof.Proof.StepTile
public import proofs.«01_k».proof.Proof.Gen.KernelIdeal.Frame
public import Idealize.ShloMosaic.Lib.Pipeline.ValueKit

@[expose] public section

set_option maxRecDepth 16384

noncomputable section

namespace Cert.KernelIdeal.Step

open Cert.KernelIdeal Cert.KernelIdeal.Gen
open Idealize.ShloMosaic Idealize.ShloMosaic.TcCoe
open Idealize.SL.Sem

/-- The new state of a block at an element: the row's gate times the old state, plus key times value. -/
def blkState (fg kf v : FVec Ideal S8x1024 .f32) (s : FVec Ideal S8x8x128x128 .f32) (b h : Fin 8) (i j : Fin 128) : EReal :=
  fg (ix2 b ⟨128 * h + i, by omega⟩) * s (ix4 b h i j)
    + kf (ix2 b ⟨128 * h + i, by omega⟩) * v (ix2 b ⟨128 * h + j, by omega⟩)

/-- A stored tile, read at an element, is the block's new state there. -/
theorem tile_blk (off : ℕ) (hs : S8x1024.Slices ![0, off] S8x128) (r hd : Fin 8) (ho : off = 128 * hd) (fg kf v : FVec Ideal S8x1024 .f32)
    (s : FVec Ideal S1x1x128x128 .f32) (S : FVec Ideal S8x8x128x128 .f32) (x : S1x1x128x128.Idx) (y : S8x8x128x128.Idx)
    (h0 : (y 0 : ℕ) = r + (x 0 : ℕ)) (h1 : (y 1 : ℕ) = hd + (x 1 : ℕ)) (h2 : (y 2 : ℕ) = x 2) (h3 : (y 3 : ℕ) = x 3)
    (hS : s x = S y) :
    shapeCast S1x1x128x128 (tile off hs (BitVec.ofNat 32 (r : ℕ)) fg kf v s) shapeCasts_S128x128_S1x1x128x128 x
      = blkState fg kf v S (y 0) (y 1) (y 2) (y 3) := by
  have hlt : 128 * (hd : ℕ) + 128 ≤ 1024 := by have := hd.isLt; omega
  subst ho
  idx_vars x
  idx_vars y
  obtain rfl : x0 = 0 := Subsingleton.elim _ _
  obtain rfl : x1 = 0 := Subsingleton.elim _ _
  obtain rfl : y0 = r := Fin.ext (by simpa using h0)
  obtain rfl : y1 = hd := Fin.ext (by simpa using h1)
  obtain rfl : y2 = x2 := Fin.ext (by simpa using h2)
  obtain rfl : y3 = x3 := Fin.ext (by simpa using h3)
  pointwise [blkState]
  refine (tile_apply _ hs hlt y0 fg kf v s y2 y3).trans ?_
  rw [hS]

set_option maxHeartbeats 16000000 in
/-- The block of new states, element by element. -/
theorem out1_6_apply (x0 x1 x2 : FVec Ideal S8x1024 .f32) (x3 : FVec Ideal S2x1024 .f32) (x4 : FVec Ideal S1x1024 .f32) (x5 : FVec Ideal S8x8x128x128 .f32)
    (y : S8x8x128x128.Idx) :
    out1_6 (F := Ideal) x0 x1 x2 x3 x4 x5 y
      = blkState (k1_pay309 (F := Ideal) x0 x1 x2 x3 x4 x5) (k1_pay310 (F := Ideal) x0 x1 x2 x3 x4 x5) (k1_pay312 (F := Ideal) x0 x1 x2 x3 x4 x5) x5 (y 0) (y 1) (y 2) (y 3) := by
  unfold out1_6
  canon_tiles x h
  · dsimp only [k1_pay1, k1_pay2, k1_pay304, k1_pay305, k1_pay306, k1_pay307, k1_pay309, k1_pay310, k1_pay311, k1_pay312, k1_pay387, k1_pay388, k1_pay389]
    exact tile_blk 896 slices_S8x1024_o0_896_S8x128 7 7 rfl _ _ _ _ _ x y h0 h1 h2 h3 (by pointwise; exact congrArg x5 (by idx_ext))
  · dsimp only [k1_pay300, k1_pay301, k1_pay302, k1_pay309, k1_pay310, k1_pay311, k1_pay312]
    exact tile_blk 896 slices_S8x1024_o0_896_S8x128 6 7 rfl _ _ _ _ _ x y h0 h1 h2 h3 (by pointwise; exact congrArg x5 (by idx_ext))
  · dsimp only [k1_pay297, k1_pay298, k1_pay299, k1_pay309, k1_pay310, k1_pay311, k1_pay312, k1_pay386]
    exact tile_blk 896 slices_S8x1024_o0_896_S8x128 5 7 rfl _ _ _ _ _ x y h0 h1 h2 h3 (by pointwise; exact congrArg x5 (by idx_ext))
  · dsimp only [k1_pay290, k1_pay291, k1_pay292, k1_pay293, k1_pay294, k1_pay295, k1_pay309, k1_pay310, k1_pay311, k1_pay312, k1_pay382, k1_pay383, k1_pay384, k1_pay385]
    exact tile_blk 896 slices_S8x1024_o0_896_S8x128 4 7 rfl _ _ _ _ _ x y h0 h1 h2 h3 (by pointwise; exact congrArg x5 (by idx_ext))
  · dsimp only [k1_pay286, k1_pay287, k1_pay288, k1_pay309, k1_pay310, k1_pay311, k1_pay312]
    exact tile_blk 896 slices_S8x1024_o0_896_S8x128 3 7 rfl _ _ _ _ _ x y h0 h1 h2 h3 (by pointwise; exact congrArg x5 (by idx_ext))
  · dsimp only [k1_pay283, k1_pay284, k1_pay285, k1_pay309, k1_pay310, k1_pay311, k1_pay312, k1_pay381]
    exact tile_blk 896 slices_S8x1024_o0_896_S8x128 2 7 rfl _ _ _ _ _ x y h0 h1 h2 h3 (by pointwise; exact congrArg x5 (by idx_ext))
  · dsimp only [k1_pay278, k1_pay279, k1_pay280, k1_pay281, k1_pay309, k1_pay310, k1_pay311, k1_pay312, k1_pay379, k1_pay380]
    exact tile_blk 896 slices_S8x1024_o0_896_S8x128 1 7 rfl _ _ _ _ _ x y h0 h1 h2 h3 (by pointwise; exact congrArg x5 (by idx_ext))
  · dsimp only [k1_pay274, k1_pay275, k1_pay276, k1_pay309, k1_pay310, k1_pay311, k1_pay312]
    exact tile_blk 896 slices_S8x1024_o0_896_S8x128 0 7 rfl _ _ _ _ _ x y (h0.trans (Nat.zero_add _).symm) h1 h2 h3 (by pointwise; exact congrArg x5 (by idx_ext))
  · dsimp only [k1_pay269, k1_pay270, k1_pay271, k1_pay309, k1_pay310, k1_pay311, k1_pay312]
    exact tile_blk 768 slices_S8x1024_o0_768_S8x128 7 6 rfl _ _ _ _ _ x y h0 h1 h2 h3 (by pointwise; exact congrArg x5 (by idx_ext))
  · dsimp only [k1_pay265, k1_pay266, k1_pay267, k1_pay309, k1_pay310, k1_pay311, k1_pay312]
    exact tile_blk 768 slices_S8x1024_o0_768_S8x128 6 6 rfl _ _ _ _ _ x y h0 h1 h2 h3 (by pointwise; exact congrArg x5 (by idx_ext))
  · dsimp only [k1_pay259, k1_pay260, k1_pay261, k1_pay262, k1_pay263, k1_pay309, k1_pay310, k1_pay311, k1_pay312, k1_pay377, k1_pay378]
    exact tile_blk 768 slices_S8x1024_o0_768_S8x128 5 6 rfl _ _ _ _ _ x y h0 h1 h2 h3 (by pointwise; exact congrArg x5 (by idx_ext))
  · dsimp only [k1_pay255, k1_pay256, k1_pay257, k1_pay309, k1_pay310, k1_pay311, k1_pay312]
    exact tile_blk 768 slices_S8x1024_o0_768_S8x128 4 6 rfl _ _ _ _ _ x y h0 h1 h2 h3 (by pointwise; exact congrArg x5 (by idx_ext))
  · dsimp only [k1_pay251, k1_pay252, k1_pay253, k1_pay309, k1_pay310, k1_pay311, k1_pay312]
    exact tile_blk 768 slices_S8x1024_o0_768_S8x128 3 6 rfl _ _ _ _ _ x y h0 h1 h2 h3 (by pointwise; exact congrArg x5 (by idx_ext))
  · dsimp only [k1_pay246, k1_pay247, k1_pay248, k1_pay249, k1_pay250, k1_pay309, k1_pay310, k1_pay311, k1_pay312, k1_pay375, k1_pay376]
    exact tile_blk 768 slices_S8x1024_o0_768_S8x128 2 6 rfl _ _ _ _ _ x y h0 h1 h2 h3 (by pointwise; exact congrArg x5 (by idx_ext))
  · dsimp only [k1_pay242, k1_pay243, k1_pay244, k1_pay309, k1_pay310, k1_pay311, k1_pay312, k1_pay374]
    exact tile_blk 768 slices_S8x1024_o0_768_S8x128 1 6 rfl _ _ _ _ _ x y h0 h1 h2 h3 (by pointwise; exact congrArg x5 (by idx_ext))
  · dsimp only [k1_pay238, k1_pay239, k1_pay240, k1_pay309, k1_pay310, k1_pay311, k1_pay312]
    exact tile_blk 768 slices_S8x1024_o0_768_S8x128 0 6 rfl _ _ _ _ _ x y (h0.trans (Nat.zero_add _).symm) h1 h2 h3 (by pointwise; exact congrArg x5 (by idx_ext))
  · dsimp only [k1_pay232, k1_pay233, k1_pay234, k1_pay309, k1_pay310, k1_pay311, k1_pay312]
    exact tile_blk 640 slices_S8x1024_o0_640_S8x128 7 5 rfl _ _ _ _ _ x y h0 h1 h2 h3 (by pointwise; exact congrArg x5 (by idx_ext))
  · dsimp only [k1_pay229, k1_pay230, k1_pay231, k1_pay309, k1_pay310, k1_pay311, k1_pay312, k1_pay373]
    exact tile_blk 640 slices_S8x1024_o0_640_S8x128 6 5 rfl _ _ _ _ _ x y h0 h1 h2 h3 (by pointwise; exact congrArg x5 (by idx_ext))
  · dsimp only [k1_pay224, k1_pay225, k1_pay226, k1_pay227, k1_pay309, k1_pay310, k1_pay311, k1_pay312, k1_pay369, k1_pay370]
    exact tile_blk 640 slices_S8x1024_o0_640_S8x128 5 5 rfl _ _ _ _ _ x y h0 h1 h2 h3 (by pointwise; exact congrArg x5 (by idx_ext))
  · dsimp only [k1_pay220, k1_pay221, k1_pay222, k1_pay309, k1_pay310, k1_pay311, k1_pay312]
    exact tile_blk 640 slices_S8x1024_o0_640_S8x128 4 5 rfl _ _ _ _ _ x y h0 h1 h2 h3 (by pointwise; exact congrArg x5 (by idx_ext))
  · dsimp only [k1_pay217, k1_pay218, k1_pay219, k1_pay309, k1_pay310, k1_pay311, k1_pay312]
    exact tile_blk 640 slices_S8x1024_o0_640_S8x128 3 5 rfl _ _ _ _ _ x y h0 h1 h2 h3 (by pointwise; exact congrArg x5 (by idx_ext))
  · dsimp only [k1_pay210, k1_pay211, k1_pay212, k1_pay213, k1_pay214, k1_pay215, k1_pay309, k1_pay310, k1_pay311, k1_pay312, k1_pay365, k1_pay366, k1_pay367, k1_pay368]
    exact tile_blk 640 slices_S8x1024_o0_640_S8x128 2 5 rfl _ _ _ _ _ x y h0 h1 h2 h3 (by pointwise; exact congrArg x5 (by idx_ext))
  · dsimp only [k1_pay206, k1_pay207, k1_pay208, k1_pay309, k1_pay310, k1_pay311, k1_pay312]
    exact tile_blk 640 slices_S8x1024_o0_640_S8x128 1 5 rfl _ _ _ _ _ x y h0 h1 h2 h3 (by pointwise; exact congrArg x5 (by idx_ext))
  · dsimp only [k1_pay202, k1_pay203, k1_pay204, k1_pay309, k1_pay310, k1_pay311, k1_pay312]
    exact tile_blk 640 slices_S8x1024_o0_640_S8x128 0 5 rfl _ _ _ _ _ x y (h0.trans (Nat.zero_add _).symm) h1 h2 h3 (by pointwise; exact congrArg x5 (by idx_ext))
  · dsimp only [k1_pay196, k1_pay197, k1_pay198, k1_pay309, k1_pay310, k1_pay311, k1_pay312]
    exact tile_blk 512 slices_S8x1024_o0_512_S8x128 7 4 rfl _ _ _ _ _ x y h0 h1 h2 h3 (by pointwise; exact congrArg x5 (by idx_ext))
  · dsimp only [k1_pay191, k1_pay192, k1_pay193, k1_pay194, k1_pay195, k1_pay309, k1_pay310, k1_pay311, k1_pay312, k1_pay363, k1_pay364]
    exact tile_blk 512 slices_S8x1024_o0_512_S8x128 6 4 rfl _ _ _ _ _ x y h0 h1 h2 h3 (by pointwise; exact congrArg x5 (by idx_ext))
  · dsimp only [k1_pay187, k1_pay188, k1_pay189, k1_pay309, k1_pay310, k1_pay311, k1_pay312, k1_pay362]
    exact tile_blk 512 slices_S8x1024_o0_512_S8x128 5 4 rfl _ _ _ _ _ x y h0 h1 h2 h3 (by pointwise; exact congrArg x5 (by idx_ext))
  · dsimp only [k1_pay183, k1_pay184, k1_pay185, k1_pay309, k1_pay310, k1_pay311, k1_pay312]
    exact tile_blk 512 slices_S8x1024_o0_512_S8x128 4 4 rfl _ _ _ _ _ x y h0 h1 h2 h3 (by pointwise; exact congrArg x5 (by idx_ext))
  · dsimp only [k1_pay178, k1_pay179, k1_pay180, k1_pay181, k1_pay182, k1_pay309, k1_pay310, k1_pay311, k1_pay312, k1_pay360, k1_pay361]
    exact tile_blk 512 slices_S8x1024_o0_512_S8x128 3 4 rfl _ _ _ _ _ x y h0 h1 h2 h3 (by pointwise; exact congrArg x5 (by idx_ext))
  · dsimp only [k1_pay173, k1_pay174, k1_pay175, k1_pay176, k1_pay309, k1_pay310, k1_pay311, k1_pay312, k1_pay358, k1_pay359]
    exact tile_blk 512 slices_S8x1024_o0_512_S8x128 2 4 rfl _ _ _ _ _ x y h0 h1 h2 h3 (by pointwise; exact congrArg x5 (by idx_ext))
  · dsimp only [k1_pay169, k1_pay170, k1_pay171, k1_pay309, k1_pay310, k1_pay311, k1_pay312]
    exact tile_blk 512 slices_S8x1024_o0_512_S8x128 1 4 rfl _ _ _ _ _ x y h0 h1 h2 h3 (by pointwise; exact congrArg x5 (by idx_ext))
  · dsimp only [k1_pay166, k1_pay167, k1_pay168, k1_pay309, k1_pay310, k1_pay311, k1_pay312, k1_pay357]
    exact tile_blk 512 slices_S8x1024_o0_512_S8x128 0 4 rfl _ _ _ _ _ x y (h0.trans (Nat.zero_add _).symm) h1 h2 h3 (by pointwise; exact congrArg x5 (by idx_ext))
  · dsimp only [k1_pay161, k1_pay162, k1_pay163, k1_pay309, k1_pay310, k1_pay311, k1_pay312]
    exact tile_blk 384 slices_S8x1024_o0_384_S8x128 7 3 rfl _ _ _ _ _ x y h0 h1 h2 h3 (by pointwise; exact congrArg x5 (by idx_ext))
  · dsimp only [k1_pay154, k1_pay155, k1_pay156, k1_pay157, k1_pay158, k1_pay159, k1_pay309, k1_pay310, k1_pay311, k1_pay312, k1_pay353, k1_pay354, k1_pay355, k1_pay356]
    exact tile_blk 384 slices_S8x1024_o0_384_S8x128 6 3 rfl _ _ _ _ _ x y h0 h1 h2 h3 (by pointwise; exact congrArg x5 (by idx_ext))
  · dsimp only [k1_pay150, k1_pay151, k1_pay152, k1_pay309, k1_pay310, k1_pay311, k1_pay312]
    exact tile_blk 384 slices_S8x1024_o0_384_S8x128 5 3 rfl _ _ _ _ _ x y h0 h1 h2 h3 (by pointwise; exact congrArg x5 (by idx_ext))
  · dsimp only [k1_pay146, k1_pay147, k1_pay148, k1_pay309, k1_pay310, k1_pay311, k1_pay312]
    exact tile_blk 384 slices_S8x1024_o0_384_S8x128 4 3 rfl _ _ _ _ _ x y h0 h1 h2 h3 (by pointwise; exact congrArg x5 (by idx_ext))
  · dsimp only [k1_pay139, k1_pay140, k1_pay141, k1_pay142, k1_pay143, k1_pay144, k1_pay309, k1_pay310, k1_pay311, k1_pay312, k1_pay349, k1_pay350, k1_pay351, k1_pay352]
    exact tile_blk 384 slices_S8x1024_o0_384_S8x128 3 3 rfl _ _ _ _ _ x y h0 h1 h2 h3 (by pointwise; exact congrArg x5 (by idx_ext))
  · dsimp only [k1_pay135, k1_pay136, k1_pay137, k1_pay309, k1_pay310, k1_pay311, k1_pay312]
    exact tile_blk 384 slices_S8x1024_o0_384_S8x128 2 3 rfl _ _ _ _ _ x y h0 h1 h2 h3 (by pointwise; exact congrArg x5 (by idx_ext))
  · dsimp only [k1_pay131, k1_pay132, k1_pay133, k1_pay309, k1_pay310, k1_pay311, k1_pay312]
    exact tile_blk 384 slices_S8x1024_o0_384_S8x128 1 3 rfl _ _ _ _ _ x y h0 h1 h2 h3 (by pointwise; exact congrArg x5 (by idx_ext))
  · dsimp only [k1_pay125, k1_pay126, k1_pay127, k1_pay128, k1_pay129, k1_pay309, k1_pay310, k1_pay311, k1_pay312, k1_pay347, k1_pay348]
    exact tile_blk 384 slices_S8x1024_o0_384_S8x128 0 3 rfl _ _ _ _ _ x y (h0.trans (Nat.zero_add _).symm) h1 h2 h3 (by pointwise; exact congrArg x5 (by idx_ext))
  · dsimp only [k1_pay118, k1_pay119, k1_pay120, k1_pay121, k1_pay122, k1_pay309, k1_pay310, k1_pay311, k1_pay312, k1_pay345, k1_pay346]
    exact tile_blk 256 slices_S8x1024_o0_256_S8x128 7 2 rfl _ _ _ _ _ x y h0 h1 h2 h3 (by pointwise; exact congrArg x5 (by idx_ext))
  · dsimp only [k1_pay113, k1_pay114, k1_pay115, k1_pay116, k1_pay309, k1_pay310, k1_pay311, k1_pay312, k1_pay343, k1_pay344]
    exact tile_blk 256 slices_S8x1024_o0_256_S8x128 6 2 rfl _ _ _ _ _ x y h0 h1 h2 h3 (by pointwise; exact congrArg x5 (by idx_ext))
  · dsimp only [k1_pay109, k1_pay110, k1_pay111, k1_pay309, k1_pay310, k1_pay311, k1_pay312]
    exact tile_blk 256 slices_S8x1024_o0_256_S8x128 5 2 rfl _ _ _ _ _ x y h0 h1 h2 h3 (by pointwise; exact congrArg x5 (by idx_ext))
  · dsimp only [k1_pay106, k1_pay107, k1_pay108, k1_pay309, k1_pay310, k1_pay311, k1_pay312, k1_pay342]
    exact tile_blk 256 slices_S8x1024_o0_256_S8x128 4 2 rfl _ _ _ _ _ x y h0 h1 h2 h3 (by pointwise; exact congrArg x5 (by idx_ext))
  · dsimp only [k1_pay100, k1_pay101, k1_pay102, k1_pay103, k1_pay104, k1_pay309, k1_pay310, k1_pay311, k1_pay312, k1_pay339, k1_pay340, k1_pay341]
    exact tile_blk 256 slices_S8x1024_o0_256_S8x128 3 2 rfl _ _ _ _ _ x y h0 h1 h2 h3 (by pointwise; exact congrArg x5 (by idx_ext))
  · dsimp only [k1_pay96, k1_pay97, k1_pay98, k1_pay309, k1_pay310, k1_pay311, k1_pay312]
    exact tile_blk 256 slices_S8x1024_o0_256_S8x128 2 2 rfl _ _ _ _ _ x y h0 h1 h2 h3 (by pointwise; exact congrArg x5 (by idx_ext))
  · dsimp only [k1_pay93, k1_pay94, k1_pay95, k1_pay309, k1_pay310, k1_pay311, k1_pay312, k1_pay338]
    exact tile_blk 256 slices_S8x1024_o0_256_S8x128 1 2 rfl _ _ _ _ _ x y h0 h1 h2 h3 (by pointwise; exact congrArg x5 (by idx_ext))
  · dsimp only [k1_pay87, k1_pay88, k1_pay89, k1_pay90, k1_pay91, k1_pay309, k1_pay310, k1_pay311, k1_pay312, k1_pay335, k1_pay336, k1_pay337]
    exact tile_blk 256 slices_S8x1024_o0_256_S8x128 0 2 rfl _ _ _ _ _ x y (h0.trans (Nat.zero_add _).symm) h1 h2 h3 (by pointwise; exact congrArg x5 (by idx_ext))
  · dsimp only [k1_pay79, k1_pay80, k1_pay81, k1_pay82, k1_pay83, k1_pay84, k1_pay309, k1_pay310, k1_pay311, k1_pay312, k1_pay331, k1_pay332, k1_pay333, k1_pay334]
    exact tile_blk 128 slices_S8x1024_o0_128_S8x128 7 1 rfl _ _ _ _ _ x y h0 h1 h2 h3 (by pointwise; exact congrArg x5 (by idx_ext))
  · dsimp only [k1_pay75, k1_pay76, k1_pay77, k1_pay309, k1_pay310, k1_pay311, k1_pay312]
    exact tile_blk 128 slices_S8x1024_o0_128_S8x128 6 1 rfl _ _ _ _ _ x y h0 h1 h2 h3 (by pointwise; exact congrArg x5 (by idx_ext))
  · dsimp only [k1_pay71, k1_pay72, k1_pay73, k1_pay309, k1_pay310, k1_pay311, k1_pay312]
    exact tile_blk 128 slices_S8x1024_o0_128_S8x128 5 1 rfl _ _ _ _ _ x y h0 h1 h2 h3 (by pointwise; exact congrArg x5 (by idx_ext))
  · dsimp only [k1_pay65, k1_pay66, k1_pay67, k1_pay68, k1_pay69, k1_pay309, k1_pay310, k1_pay311, k1_pay312, k1_pay329, k1_pay330]
    exact tile_blk 128 slices_S8x1024_o0_128_S8x128 4 1 rfl _ _ _ _ _ x y h0 h1 h2 h3 (by pointwise; exact congrArg x5 (by idx_ext))
  · dsimp only [k1_pay61, k1_pay62, k1_pay63, k1_pay309, k1_pay310, k1_pay311, k1_pay312]
    exact tile_blk 128 slices_S8x1024_o0_128_S8x128 3 1 rfl _ _ _ _ _ x y h0 h1 h2 h3 (by pointwise; exact congrArg x5 (by idx_ext))
  · dsimp only [k1_pay57, k1_pay58, k1_pay59, k1_pay309, k1_pay310, k1_pay311, k1_pay312]
    exact tile_blk 128 slices_S8x1024_o0_128_S8x128 2 1 rfl _ _ _ _ _ x y h0 h1 h2 h3 (by pointwise; exact congrArg x5 (by idx_ext))
  · dsimp only [k1_pay52, k1_pay53, k1_pay54, k1_pay55, k1_pay56, k1_pay309, k1_pay310, k1_pay311, k1_pay312, k1_pay327, k1_pay328]
    exact tile_blk 128 slices_S8x1024_o0_128_S8x128 1 1 rfl _ _ _ _ _ x y h0 h1 h2 h3 (by pointwise; exact congrArg x5 (by idx_ext))
  · dsimp only [k1_pay47, k1_pay48, k1_pay49, k1_pay50, k1_pay309, k1_pay310, k1_pay311, k1_pay312, k1_pay325, k1_pay326]
    exact tile_blk 128 slices_S8x1024_o0_128_S8x128 0 1 rfl _ _ _ _ _ x y (h0.trans (Nat.zero_add _).symm) h1 h2 h3 (by pointwise; exact congrArg x5 (by idx_ext))
  · dsimp only [k1_pay40, k1_pay41, k1_pay42, k1_pay43, k1_pay44, k1_pay309, k1_pay310, k1_pay311, k1_pay312, k1_pay322, k1_pay323, k1_pay324]
    exact tile_blk 0 slices_S8x1024_o0_0_S8x128 7 0 rfl _ _ _ _ _ x y h0 (h1.trans (Nat.zero_add _).symm) h2 h3 (by pointwise; exact congrArg x5 (by idx_ext))
  · dsimp only [k1_pay36, k1_pay37, k1_pay38, k1_pay309, k1_pay310, k1_pay311, k1_pay312]
    exact tile_blk 0 slices_S8x1024_o0_0_S8x128 6 0 rfl _ _ _ _ _ x y h0 (h1.trans (Nat.zero_add _).symm) h2 h3 (by pointwise; exact congrArg x5 (by idx_ext))
  · dsimp only [k1_pay33, k1_pay34, k1_pay35, k1_pay309, k1_pay310, k1_pay311, k1_pay312, k1_pay321]
    exact tile_blk 0 slices_S8x1024_o0_0_S8x128 5 0 rfl _ _ _ _ _ x y h0 (h1.trans (Nat.zero_add _).symm) h2 h3 (by pointwise; exact congrArg x5 (by idx_ext))
  · dsimp only [k1_pay27, k1_pay28, k1_pay29, k1_pay30, k1_pay31, k1_pay309, k1_pay310, k1_pay311, k1_pay312, k1_pay318, k1_pay319, k1_pay320]
    exact tile_blk 0 slices_S8x1024_o0_0_S8x128 4 0 rfl _ _ _ _ _ x y h0 (h1.trans (Nat.zero_add _).symm) h2 h3 (by pointwise; exact congrArg x5 (by idx_ext))
  · dsimp only [k1_pay23, k1_pay24, k1_pay25, k1_pay309, k1_pay310, k1_pay311, k1_pay312]
    exact tile_blk 0 slices_S8x1024_o0_0_S8x128 3 0 rfl _ _ _ _ _ x y h0 (h1.trans (Nat.zero_add _).symm) h2 h3 (by pointwise; exact congrArg x5 (by idx_ext))
  · dsimp only [k1_pay20, k1_pay21, k1_pay22, k1_pay309, k1_pay310, k1_pay311, k1_pay312]
    exact tile_blk 0 slices_S8x1024_o0_0_S8x128 2 0 rfl _ _ _ _ _ x y h0 (h1.trans (Nat.zero_add _).symm) h2 h3 (by pointwise; exact congrArg x5 (by idx_ext))
  · dsimp only [k1_pay12, k1_pay13, k1_pay14, k1_pay15, k1_pay16, k1_pay17, k1_pay18, k1_pay309, k1_pay310, k1_pay312, k1_pay313, k1_pay314, k1_pay315, k1_pay316, k1_pay317]
    exact tile_blk 0 slices_S8x1024_o0_0_S8x128 1 0 rfl _ _ _ _ _ x y h0 (h1.trans (Nat.zero_add _).symm) h2 h3 (by pointwise; exact congrArg x5 (by idx_ext))
  · dsimp only [k1_pay8, k1_pay9, k1_pay10, k1_pay309, k1_pay310, k1_pay312]
    exact tile_blk 0 slices_S8x1024_o0_0_S8x128 0 0 rfl _ _ _ _ _ x y (h0.trans (Nat.zero_add _).symm) (h1.trans (Nat.zero_add _).symm) h2 h3 (by pointwise; exact congrArg x5 (by idx_ext))

end Cert.KernelIdeal.Step

end
-- ==== Proof.StepHead.lean ====
/- The outputs one block of the recurrence leaves, at coordinates. -/
module

public import proofs.«01_k».proof.Proof.StepBlock
public import proofs.«01_k».proof.Proof.Gen.KernelIdeal.Frame
public import Idealize.ShloMosaic.Lib.Pipeline.ValueKit

@[expose] public section

set_option maxRecDepth 16384

noncomputable section

namespace Cert.KernelIdeal.Step

open Cert.KernelIdeal Cert.KernelIdeal.Gen
open Idealize.ShloMosaic Idealize.ShloMosaic.TcCoe
open Idealize.SL.Sem

/-- The output of head `h` at row `b`: the queries contracted with the new state. -/
def blkOut (qf fg kf v : FVec Ideal S8x1024 .f32) (s : FVec Ideal S8x8x128x128 .f32) (b h : Fin 8) (j : Fin 128) : EReal :=
  ∑ d : Fin 128, qf (ix2 b ⟨128 * h + d, by omega⟩) * blkState fg kf v s b h d j

/-- The same normalised over the head's lanes and scaled. -/
def blkNorm (qf fg kf v : FVec Ideal S8x1024 .f32) (s : FVec Ideal S8x8x128x128 .f32) (g : FVec Ideal S1x1024 .f32) (b h : Fin 8) (j : Fin 128) : EReal :=
  blkOut qf fg kf v s b h j * Ideal.rsqrt (Ideal.div (∑ x : Fin 128, blkOut qf fg kf v s b h x * blkOut qf fg kf v s b h x) (Ideal.ofBits .f32 0x43000000#32)
      + Ideal.ofBits .f32 0x358637BD#32) * g (ix2 0 ⟨128 * h + j, by omega⟩)

/-- A stored head, read at an element, is the block's output there. -/
theorem head_blk (off : ℕ) (hs : S8x1024.Slices ![0, off] S8x128) (hd : Fin 8) (ho : off = 128 * hd) (qf fg kf v : FVec Ideal S8x1024 .f32)
    (s0 s1 s2 s3 s4 s5 s6 s7 : FVec Ideal S1x1x128x128 .f32) (gs : FVec Ideal S1x128 .f32)
    (S : FVec Ideal S8x8x128x128 .f32) (g : FVec Ideal S1x1024 .f32) (x : S8x128.Idx) (y : S8x1024.Idx)
    (h0 : (y 0 : ℕ) = (x 0 : ℕ)) (h1 : (y 1 : ℕ) = 128 * hd + (x 1 : ℕ))
    (e0 : ∀ d j : Fin 128, s0 (ix4 0 0 d j) = S (ix4 0 hd d j)) (e1 : ∀ d j : Fin 128, s1 (ix4 0 0 d j) = S (ix4 1 hd d j))
    (e2 : ∀ d j : Fin 128, s2 (ix4 0 0 d j) = S (ix4 2 hd d j)) (e3 : ∀ d j : Fin 128, s3 (ix4 0 0 d j) = S (ix4 3 hd d j))
    (e4 : ∀ d j : Fin 128, s4 (ix4 0 0 d j) = S (ix4 4 hd d j)) (e5 : ∀ d j : Fin 128, s5 (ix4 0 0 d j) = S (ix4 5 hd d j))
    (e6 : ∀ d j : Fin 128, s6 (ix4 0 0 d j) = S (ix4 6 hd d j)) (e7 : ∀ d j : Fin 128, s7 (ix4 0 0 d j) = S (ix4 7 hd d j))
    (eg : ∀ j : Fin 128, gs (ix2 0 j) = g (ix2 0 ⟨128 * hd + j, by omega⟩)) :
    headNorm (rowsOut off hs qf fg kf v s0 s1 s2 s3 s4 s5 s6 s7) gs x
      = blkNorm qf fg kf v S g (y 0) ⟨(y 1 : ℕ) / 128, by have := (y 1).isLt; simp at this; omega⟩ ⟨(y 1 : ℕ) % 128, by omega⟩ := by
  have hlt : 128 * (hd : ℕ) + 128 ≤ 1024 := by have := hd.isLt; omega
  subst ho
  idx_vars x
  idx_vars y
  have h0' : (y0 : ℕ) = x0 := by simpa using h0
  have h1' : (y1 : ℕ) = 128 * hd + x1 := by simpa using h1
  obtain rfl : y0 = x0 := Fin.ext h0'
  have q1 : (⟨(y1 : ℕ) / 128, by omega⟩ : Fin 8) = hd := Fin.ext (by simp only; omega)
  have q2 : (⟨(y1 : ℕ) % 128, by omega⟩ : Fin 128) = x1 := Fin.ext (by simp only; omega)
  have E : ∀ (r : Fin 8) (d j : Fin 128), (![s0, s1, s2, s3, s4, s5, s6, s7] : Fin 8 → FVec Ideal S1x1x128x128 .f32) r (ix4 0 0 d j) = S (ix4 r hd d j) := by
    intro r d j
    fin_cases r
    · exact e0 d j
    · exact e1 d j
    · exact e2 d j
    · exact e3 d j
    · exact e4 d j
    · exact e5 d j
    · exact e6 d j
    · exact e7 d j
  have O : ∀ j : Fin 128, rowsOut (128 * hd) hs qf fg kf v s0 s1 s2 s3 s4 s5 s6 s7 (ix2 y0 j) = blkOut qf fg kf v S y0 hd j := by
    intro j
    refine (rowsOut_apply _ hs hlt qf fg kf v ![s0, s1, s2, s3, s4, s5, s6, s7] y0 j).trans ?_
    refine Finset.sum_congr rfl fun d _ => ?_
    rw [E y0 d j]; rfl
  refine (headNorm_apply _ gs y0 x1).trans ?_
  simp only [O, eg]
  show _ = blkNorm qf fg kf v S g y0 ⟨(y1 : ℕ) / 128, _⟩ ⟨(y1 : ℕ) % 128, _⟩
  rw [q1, q2]; rfl

set_option maxHeartbeats 8000000 in
/-- The block of outputs, element by element. -/
theorem out1_7_apply (x0 x1 x2 : FVec Ideal S8x1024 .f32) (x3 : FVec Ideal S2x1024 .f32) (x4 : FVec Ideal S1x1024 .f32) (x5 : FVec Ideal S8x8x128x128 .f32)
    (y : S8x1024.Idx) :
    out1_7 (F := Ideal) x0 x1 x2 x3 x4 x5 y
      = blkNorm (k1_pay308 (F := Ideal) x0 x1 x2 x3 x4 x5) (k1_pay309 (F := Ideal) x0 x1 x2 x3 x4 x5) (k1_pay310 (F := Ideal) x0 x1 x2 x3 x4 x5)
          (k1_pay312 (F := Ideal) x0 x1 x2 x3 x4 x5) x5 x4 (y 0) ⟨(y 1 : ℕ) / 128, by have := (y 1).isLt; simp at this; omega⟩ ⟨(y 1 : ℕ) % 128, by omega⟩ := by
  unfold out1_7
  canon_tiles x h
  · dsimp only [k1_pay1, k1_pay3, k1_pay274, k1_pay275, k1_pay277, k1_pay278, k1_pay279, k1_pay280, k1_pay282, k1_pay283, k1_pay284, k1_pay286, k1_pay287, k1_pay289, k1_pay290, k1_pay291, k1_pay292, k1_pay293, k1_pay294, k1_pay296, k1_pay297, k1_pay298, k1_pay300, k1_pay301, k1_pay303, k1_pay304, k1_pay305, k1_pay306, k1_pay307, k1_pay308, k1_pay309, k1_pay310, k1_pay311, k1_pay312, k1_pay379, k1_pay380, k1_pay381, k1_pay382, k1_pay383, k1_pay384, k1_pay385, k1_pay386, k1_pay387, k1_pay388, k1_pay389]
    refine head_blk 896 slices_S8x1024_o0_896_S8x128 7 rfl _ _ _ _ _ _ _ _ _ _ _ _ _ x5 x4 x y h0 h1 ?_ ?_ ?_ ?_ ?_ ?_ ?_ ?_ ?_
    all_goals (intros; pointwise; try (first | exact congrArg x5 (by idx_ext) | exact congrArg x4 (by idx_ext)))
  · dsimp only [k1_pay238, k1_pay239, k1_pay241, k1_pay242, k1_pay243, k1_pay245, k1_pay246, k1_pay247, k1_pay248, k1_pay249, k1_pay251, k1_pay252, k1_pay254, k1_pay255, k1_pay256, k1_pay258, k1_pay259, k1_pay260, k1_pay261, k1_pay262, k1_pay264, k1_pay265, k1_pay266, k1_pay268, k1_pay269, k1_pay270, k1_pay272, k1_pay273, k1_pay308, k1_pay309, k1_pay310, k1_pay311, k1_pay312, k1_pay374, k1_pay375, k1_pay376, k1_pay377, k1_pay378]
    refine head_blk 768 slices_S8x1024_o0_768_S8x128 6 rfl _ _ _ _ _ _ _ _ _ _ _ _ _ x5 x4 x y h0 h1 ?_ ?_ ?_ ?_ ?_ ?_ ?_ ?_ ?_
    all_goals (intros; pointwise; try (first | exact congrArg x5 (by idx_ext) | exact congrArg x4 (by idx_ext)))
  · dsimp only [k1_pay201, k1_pay202, k1_pay203, k1_pay205, k1_pay206, k1_pay207, k1_pay209, k1_pay210, k1_pay211, k1_pay212, k1_pay213, k1_pay214, k1_pay216, k1_pay217, k1_pay218, k1_pay220, k1_pay221, k1_pay223, k1_pay224, k1_pay225, k1_pay226, k1_pay228, k1_pay229, k1_pay230, k1_pay232, k1_pay233, k1_pay235, k1_pay236, k1_pay237, k1_pay308, k1_pay309, k1_pay310, k1_pay311, k1_pay312, k1_pay365, k1_pay366, k1_pay367, k1_pay368, k1_pay369, k1_pay370, k1_pay371, k1_pay372, k1_pay373]
    refine head_blk 640 slices_S8x1024_o0_640_S8x128 5 rfl _ _ _ _ _ _ _ _ _ _ _ _ _ x5 x4 x y h0 h1 ?_ ?_ ?_ ?_ ?_ ?_ ?_ ?_ ?_
    all_goals (intros; pointwise; try (first | exact congrArg x5 (by idx_ext) | exact congrArg x4 (by idx_ext)))
  · dsimp only [k1_pay165, k1_pay166, k1_pay167, k1_pay169, k1_pay170, k1_pay172, k1_pay173, k1_pay174, k1_pay175, k1_pay177, k1_pay178, k1_pay179, k1_pay180, k1_pay181, k1_pay183, k1_pay184, k1_pay186, k1_pay187, k1_pay188, k1_pay190, k1_pay191, k1_pay192, k1_pay193, k1_pay194, k1_pay196, k1_pay197, k1_pay199, k1_pay200, k1_pay308, k1_pay309, k1_pay310, k1_pay311, k1_pay312, k1_pay357, k1_pay358, k1_pay359, k1_pay360, k1_pay361, k1_pay362, k1_pay363, k1_pay364]
    refine head_blk 512 slices_S8x1024_o0_512_S8x128 4 rfl _ _ _ _ _ _ _ _ _ _ _ _ _ x5 x4 x y h0 h1 ?_ ?_ ?_ ?_ ?_ ?_ ?_ ?_ ?_
    all_goals (intros; pointwise; try (first | exact congrArg x5 (by idx_ext) | exact congrArg x4 (by idx_ext)))
  · dsimp only [k1_pay124, k1_pay125, k1_pay126, k1_pay127, k1_pay128, k1_pay130, k1_pay131, k1_pay132, k1_pay134, k1_pay135, k1_pay136, k1_pay138, k1_pay139, k1_pay140, k1_pay141, k1_pay142, k1_pay143, k1_pay145, k1_pay146, k1_pay147, k1_pay149, k1_pay150, k1_pay151, k1_pay153, k1_pay154, k1_pay155, k1_pay156, k1_pay157, k1_pay158, k1_pay160, k1_pay161, k1_pay162, k1_pay164, k1_pay308, k1_pay309, k1_pay310, k1_pay311, k1_pay312, k1_pay347, k1_pay348, k1_pay349, k1_pay350, k1_pay351, k1_pay352, k1_pay353, k1_pay354, k1_pay355, k1_pay356]
    refine head_blk 384 slices_S8x1024_o0_384_S8x128 3 rfl _ _ _ _ _ _ _ _ _ _ _ _ _ x5 x4 x y h0 h1 ?_ ?_ ?_ ?_ ?_ ?_ ?_ ?_ ?_
    all_goals (intros; pointwise; try (first | exact congrArg x5 (by idx_ext) | exact congrArg x4 (by idx_ext)))
  · dsimp only [k1_pay86, k1_pay87, k1_pay88, k1_pay89, k1_pay90, k1_pay92, k1_pay93, k1_pay94, k1_pay96, k1_pay97, k1_pay99, k1_pay100, k1_pay101, k1_pay102, k1_pay103, k1_pay105, k1_pay106, k1_pay107, k1_pay109, k1_pay110, k1_pay112, k1_pay113, k1_pay114, k1_pay115, k1_pay117, k1_pay118, k1_pay119, k1_pay120, k1_pay121, k1_pay123, k1_pay308, k1_pay309, k1_pay310, k1_pay311, k1_pay312, k1_pay335, k1_pay336, k1_pay337, k1_pay338, k1_pay339, k1_pay340, k1_pay341, k1_pay342, k1_pay343, k1_pay344, k1_pay345, k1_pay346]
    refine head_blk 256 slices_S8x1024_o0_256_S8x128 2 rfl _ _ _ _ _ _ _ _ _ _ _ _ _ x5 x4 x y h0 h1 ?_ ?_ ?_ ?_ ?_ ?_ ?_ ?_ ?_
    all_goals (intros; pointwise; try (first | exact congrArg x5 (by idx_ext) | exact congrArg x4 (by idx_ext)))
  · dsimp only [k1_pay46, k1_pay47, k1_pay48, k1_pay49, k1_pay51, k1_pay52, k1_pay53, k1_pay54, k1_pay55, k1_pay57, k1_pay58, k1_pay60, k1_pay61, k1_pay62, k1_pay64, k1_pay65, k1_pay66, k1_pay67, k1_pay68, k1_pay70, k1_pay71, k1_pay72, k1_pay74, k1_pay75, k1_pay76, k1_pay78, k1_pay79, k1_pay80, k1_pay81, k1_pay82, k1_pay83, k1_pay85, k1_pay308, k1_pay309, k1_pay310, k1_pay311, k1_pay312, k1_pay325, k1_pay326, k1_pay327, k1_pay328, k1_pay329, k1_pay330, k1_pay331, k1_pay332, k1_pay333, k1_pay334]
    refine head_blk 128 slices_S8x1024_o0_128_S8x128 1 rfl _ _ _ _ _ _ _ _ _ _ _ _ _ x5 x4 x y h0 h1 ?_ ?_ ?_ ?_ ?_ ?_ ?_ ?_ ?_
    all_goals (intros; pointwise; try (first | exact congrArg x5 (by idx_ext) | exact congrArg x4 (by idx_ext)))
  · dsimp only [k1_pay8, k1_pay9, k1_pay11, k1_pay12, k1_pay13, k1_pay14, k1_pay15, k1_pay16, k1_pay17, k1_pay19, k1_pay20, k1_pay21, k1_pay23, k1_pay24, k1_pay26, k1_pay27, k1_pay28, k1_pay29, k1_pay30, k1_pay32, k1_pay33, k1_pay34, k1_pay36, k1_pay37, k1_pay39, k1_pay40, k1_pay41, k1_pay42, k1_pay43, k1_pay45, k1_pay308, k1_pay309, k1_pay310, k1_pay311, k1_pay312, k1_pay313, k1_pay314, k1_pay315, k1_pay316, k1_pay317, k1_pay318, k1_pay319, k1_pay320, k1_pay321, k1_pay322, k1_pay323, k1_pay324]
    refine head_blk 0 slices_S8x1024_o0_0_S8x128 0 rfl _ _ _ _ _ _ _ _ _ _ _ _ _ x5 x4 x y h0 (h1.trans (Nat.zero_add _).symm) ?_ ?_ ?_ ?_ ?_ ?_ ?_ ?_ ?_
    all_goals (intros; pointwise; try (first | exact congrArg x5 (by idx_ext) | exact congrArg x4 (by idx_ext)))

end Cert.KernelIdeal.Step

end
-- ==== Proof.StepSpec.lean ====
/- The recurrence step over plain functions of the extended reals: what both programs compute, element by element. -/
module

public import Idealize.ShloMosaic.Lib.Pointwise

@[expose] public section

noncomputable section

namespace Cert.StepSpec

open Idealize.ShloMosaic

/-- The input projection: the token normalised by its root mean square and scaled, times the weights. -/
def proj (x : Fin 128 → Fin 1024 → EReal) (g : Fin 1024 → EReal) (w : Fin 1024 → Fin 7168 → EReal) (b : Fin 128) (n : Fin 7168) : EReal :=
  ∑ k : Fin 1024, x b k * Ideal.rsqrt (Ideal.div (∑ l : Fin 1024, x b l * x b l) (Ideal.ofBits .f32 0x44800000#32)
    + Ideal.ofBits .f32 0x358637BD#32) * g k * w k n

/-- The lower bound of the gates at a lane: the first layer's softmax. -/
def lb (p : Fin 2 → Fin 1024 → EReal) (n : Fin 1024) : EReal :=
  Ideal.div (Ideal.exp (p 0 n - Finset.fold max (Ideal.ofBits .f32 0xFF800000#32) (fun l => p l n) Finset.univ))
    (∑ k : Fin 2, Ideal.exp (p k n - Finset.fold max (Ideal.ofBits .f32 0xFF800000#32) (fun l => p l n) Finset.univ))

/-- The logistic function. -/
def sig (z : EReal) : EReal := Ideal.div 1 (1 + Ideal.exp (0 - z))

/-- The forget gate at a lane. -/
def fg (p : Fin 2 → Fin 1024 → EReal) (n : Fin 1024) (z : EReal) : EReal := lb p n + (1 - lb p n) * sig z

/-- A query. -/
def qf (z : EReal) : EReal := z * sig z * Ideal.ofBits .f32 0x3DB504F3#32

/-- The new state: the gate times the old one, plus key times value. -/
def state (x : Fin 128 → Fin 1024 → EReal) (s : Fin 128 → Fin 8 → Fin 128 → Fin 128 → EReal) (g : Fin 1024 → EReal)
    (w : Fin 1024 → Fin 7168 → EReal) (p : Fin 2 → Fin 1024 → EReal)
    (b : Fin 128) (h : Fin 8) (i j : Fin 128) : EReal :=
  fg p ⟨h * 128 + i, by omega⟩ (proj x g w b ⟨2048 + (h * 128 + i), by omega⟩) * s b h i j
    + (1 - fg p ⟨h * 128 + i, by omega⟩ (proj x g w b ⟨2048 + (h * 128 + i), by omega⟩)) * proj x g w b ⟨3072 + (h * 128 + j), by omega⟩

/-- A head's output: its queries contracted with the new state. -/
def out (x : Fin 128 → Fin 1024 → EReal) (s : Fin 128 → Fin 8 → Fin 128 → Fin 128 → EReal) (g : Fin 1024 → EReal)
    (w : Fin 1024 → Fin 7168 → EReal) (p : Fin 2 → Fin 1024 → EReal)
    (b : Fin 128) (h : Fin 8) (j : Fin 128) : EReal :=
  ∑ d : Fin 128, qf (proj x g w b ⟨1024 + (h * 128 + d), by omega⟩) * state x s g w p b h d j

/-- The same normalised over the head's lanes and scaled. -/
def norm (x : Fin 128 → Fin 1024 → EReal) (s : Fin 128 → Fin 8 → Fin 128 → Fin 128 → EReal) (g : Fin 1024 → EReal)
    (w : Fin 1024 → Fin 7168 → EReal) (p : Fin 2 → Fin 1024 → EReal)
    (hg : Fin 1024 → EReal) (b : Fin 128) (n : Fin 1024) : EReal :=
  out x s g w p b ⟨n / 128, by omega⟩ ⟨n % 128, by omega⟩
    * Ideal.rsqrt (Ideal.div (∑ l : Fin 128, out x s g w p b ⟨n / 128, by omega⟩ l * out x s g w p b ⟨n / 128, by omega⟩ l) (Ideal.ofBits .f32 0x43000000#32)
      + Ideal.ofBits .f32 0x358637BD#32) * hg n

end Cert.StepSpec

end
-- ==== Proof.StepIn.lean ====
/- The arrays of the recurrence step: what the two kernels read, block by block, element by element. -/
module

public import proofs.«01_k».proof.Proof.StepHead
public import proofs.«01_k».proof.Proof.StepSpec
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Step

open Cert.KernelIdeal Cert.KernelIdeal.Gen Cert.StepSpec
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

/-- The arguments, over plain coordinates. -/
def aX (c : Dev nD) (b : Fin 128) (k : Fin 1024) : EReal := m ((c : Thread nD τ).loc main_arg0) (ix3 b 0 k)
def aS (c : Dev nD) (b : Fin 128) (h : Fin 8) (i j : Fin 128) : EReal := m ((c : Thread nD τ).loc main_arg1) (ix5 0 b h i j)
def aG (c : Dev nD) (k : Fin 1024) : EReal := m ((c : Thread nD τ).loc main_arg2) (ix2 0 k)
def aW (c : Dev nD) (k : Fin 1024) (n : Fin 7168) : EReal := m ((c : Thread nD τ).loc main_arg3) (ix3 0 k n)
def aP (c : Dev nD) (l : Fin 2) (n : Fin 1024) : EReal := m ((c : Thread nD τ).loc main_arg4) (ix2 l n)
def aH (c : Dev nD) (n : Fin 1024) : EReal := m ((c : Thread nD τ).loc main_arg5) (ix2 0 n)

/-- The projection's block, at an element. -/
theorem k0_apply (x : FVec Ideal S128x1024 .f32) (g : FVec Ideal S1x1024 .f32) (w : FVec Ideal S1024x7168 .bf16) (b : Fin 128) (n : Fin 7168) :
    k0_pay1 (F := Ideal) x g w (ix2 b n) = proj (fun b k => x (ix2 b k)) (fun k => g (ix2 0 k)) (fun k n => w (ix2 k n)) b n := by
  pointwise [k0_pay1, proj]

theorem out0_3_eq (x0 : FVec Ideal S128x1024 .f32) (x1 : FVec Ideal S1x1024 .f32) (x2 : FVec Ideal S1024x7168 .bf16) :
    out0_3 (F := Ideal) x0 x1 x2 = k0_pay1 (F := Ideal) x0 x1 x2 := by
  unfold out0_3; frame_out

theorem pay_q (x0 x1 x2 : FVec Ideal S8x1024 .f32) (x3 : FVec Ideal S2x1024 .f32) (x4 : FVec Ideal S1x1024 .f32) (x5 : FVec Ideal S8x8x128x128 .f32) (r : Fin 8) (n : Fin 1024) :
    k1_pay308 (F := Ideal) x0 x1 x2 x3 x4 x5 (ix2 r n) = qf (x0 (ix2 r n)) := by
  pointwise [k1_pay308, k1_pay4, qf, StepSpec.sig]
theorem pay_f (x0 x1 x2 : FVec Ideal S8x1024 .f32) (x3 : FVec Ideal S2x1024 .f32) (x4 : FVec Ideal S1x1024 .f32) (x5 : FVec Ideal S8x8x128x128 .f32) (r : Fin 8) (n : Fin 1024) :
    k1_pay309 (F := Ideal) x0 x1 x2 x3 x4 x5 (ix2 r n) = fg (fun l n => x3 (ix2 l n)) n (x1 (ix2 r n)) := by
  pointwise [k1_pay309, k1_pay5, fg, lb, StepSpec.sig]
theorem pay_k (x0 x1 x2 : FVec Ideal S8x1024 .f32) (x3 : FVec Ideal S2x1024 .f32) (x4 : FVec Ideal S1x1024 .f32) (x5 : FVec Ideal S8x8x128x128 .f32) (r : Fin 8) (n : Fin 1024) :
    k1_pay310 (F := Ideal) x0 x1 x2 x3 x4 x5 (ix2 r n) = 1 - fg (fun l n => x3 (ix2 l n)) n (x1 (ix2 r n)) := by
  pointwise [k1_pay310, k1_pay6, k1_pay5, fg, lb, StepSpec.sig]
theorem pay_v (x0 x1 x2 : FVec Ideal S8x1024 .f32) (x3 : FVec Ideal S2x1024 .f32) (x4 : FVec Ideal S1x1024 .f32) (x5 : FVec Ideal S8x8x128x128 .f32) (r : Fin 8) (n : Fin 1024) :
    k1_pay312 (F := Ideal) x0 x1 x2 x3 x4 x5 (ix2 r n) = x2 (ix2 r n) := by
  pointwise [k1_pay312, k1_pay7]

theorem V1_x (c : Dev nD) (b : Fin 128) (k : Fin 1024) : V1 m ρ c main_v14 (ix2 b k) = aX m c b k := by
  have h : V1 m ρ c main_v14 = (shapeCast S128x1024 (m ((c : Thread nD τ).loc main_arg0) : FVec Ideal S128x1x1024 .f32) shapeCasts_S128x1x1024_S128x1024 : FVec Ideal S128x1024 .f32) := by
    show StableHlo.after hostOps0 (W0 m ρ c) (Proc.devRef .tc main_v14) = _
    after_results
    rfl
  rw [h]; pointwise [aX]

theorem cast_w (X : FVec Ideal S1x1024x7168 .f32) (k : Fin 1024) (n : Fin 7168) :
    truncf (F := Ideal) .bf16 (shapeCast S1024x7168 X shapeCasts_S1x1024x7168_S1024x7168 : FVec Ideal S1024x7168 .f32) bitsLt_bf16_f32 (ix2 k n) = X (ix3 0 k n) := by
  pointwise
theorem V1_w (c : Dev nD) (k : Fin 1024) (n : Fin 7168) : V1 m ρ c main_v6 (ix2 k n) = aW m c k n := by
  have h : V1 m ρ c main_v6 = (truncf (F := Ideal) .bf16 (shapeCast S1024x7168 (m ((c : Thread nD τ).loc main_arg3) : FVec Ideal S1x1024x7168 .f32) shapeCasts_S1x1024x7168_S1024x7168 : FVec Ideal S1024x7168 .f32) bitsLt_bf16_f32 : FVec Ideal S1024x7168 .bf16) := by
    show StableHlo.after hostOps0 (W0 m ρ c) (Proc.devRef .tc main_v6) = _
    after_results
    rfl
  rw [h]; exact cast_w _ k n
theorem cast_s (X : FVec Ideal S1x128x8x128x128 .f32) (b : Fin 128) (h : Fin 8) (i j : Fin 128) :
    shapeCast S128x8x128x128 X shapeCasts_S1x128x8x128x128_S128x8x128x128 (ix4 b h i j) = X (ix5 0 b h i j) := by
  pointwise
theorem bc_s (X : FVec Ideal S128x8x128x128 .f32) (b : Fin 128) (h : Fin 8) (i j : Fin 128) :
    broadcastInDim S1x128x8x128x128 ![1, 2, 3, 4] bcast_S128x8x128x128_S1x128x8x128x128_1_2_3_4 X (ix5 0 b h i j) = X (ix4 b h i j) := by
  pointwise
theorem V3_s (c : Dev nD) (b : Fin 128) (h : Fin 8) (i j : Fin 128) : V3 m ρ c main_v16 (ix4 b h i j) = aS m c b h i j := by
  have e : V3 m ρ c main_v16 = (shapeCast S128x8x128x128 (m ((c : Thread nD τ).loc main_arg1) : FVec Ideal S1x128x8x128x128 .f32) shapeCasts_S1x128x8x128x128_S128x8x128x128 : FVec Ideal S128x8x128x128 .f32) := by
    show StableHlo.after hostOps1 (W2 m ρ c) (Proc.devRef .tc main_v16) = _
    after_results
    rw [W2_args m ρ c main_arg1 (by decide)]
    rfl
  rw [e]; exact cast_s _ b h i j
theorem W7_s (c : Dev nD) (b : Fin 128) (h : Fin 8) (i j : Fin 128) : W7 m ρ c main_v21 (ix5 0 b h i j) = W6 m ρ c main_v17_0 (ix4 b h i j) := by
  have e : W7 m ρ c main_v21 = (broadcastInDim S1x128x8x128x128 ![1, 2, 3, 4] bcast_S128x8x128x128_S1x128x8x128x128_1_2_3_4 (W6 m ρ c main_v17_0 : FVec Ideal S128x8x128x128 .f32) : FVec Ideal S1x128x8x128x128 .f32) := by
    show StableHlo.after hostOps3 (W6 m ρ c) (Proc.devRef .tc main_v21) = _
    after_results
  rw [e]; exact bc_s _ b h i j

theorem idx0 : ∀ t : Fin cfg0.N, win0_0.index t = ![0, 0] ∧ win0_1.index t = ![0, 0] ∧ win0_2.index t = ![0, 0] ∧ win0_3.index t = ![0, 0] :=
  (by decide +kernel : ∀ t : Fin grid0.N, _)
section
variable (V : (c : Dev nD) → (b : Ref sig .tc) → Buf (Elt Ideal) ((c : Thread nD τ).loc b))
theorem blk0_x (c : Dev nD) (t : Fin cfg0.N) (b : Fin 128) (k : Fin 1024) :
    iblk0 V c 0 t (ix2 b k) = V c main_v14 (ix2 b k) := by
  blk_ext [iblk0, idx0 t]
theorem blk0_g (c : Dev nD) (t : Fin cfg0.N) (k : Fin 1024) :
    iblk0 V c 1 t (ix2 0 k) = V c main_arg2 (ix2 0 k) := by
  blk_ext [iblk0, idx0 t]
theorem blk0_w (c : Dev nD) (t : Fin cfg0.N) (k : Fin 1024) (n : Fin 7168) :
    iblk0 V c 2 t (ix2 k n) = V c main_v6 (ix2 k n) := by
  blk_ext [iblk0, idx0 t]
end
theorem idx1 : ∀ t : Fin cfg1.N, win1_0.index t = ![t.val, 1] ∧ win1_1.index t = ![t.val, 2] ∧ win1_2.index t = ![t.val, 3] ∧ win1_3.index t = ![0, 0]
    ∧ win1_4.index t = ![0, 0] ∧ win1_5.index t = ![t.val, 0, 0, 0] ∧ win1_6.index t = ![t.val, 0, 0, 0] ∧ win1_7.index t = ![t.val, 0] :=
  (by decide +kernel : ∀ t : Fin grid1.N, _)
/-- Row `r` of point `t`'s block. -/
def row (t : Fin cfg1.N) (r : Fin 8) : Fin 128 := ⟨t.val * 8 + r, by have h := t.isLt; have e : cfg1.N = 16 := rfl; omega⟩
section
variable (V : (c : Dev nD) → (b : Ref sig .tc) → Buf (Elt Ideal) ((c : Thread nD τ).loc b))
theorem blk1_q (c : Dev nD) (t : Fin cfg1.N) (r : Fin 8) (k : Fin 1024) :
    iblk1 V c 0 t (ix2 r k) = V c main_v15 (ix2 (row t r) ⟨1024 + k, by omega⟩) := by
  blk_ext [iblk1, idx1 t, row]
theorem blk1_f (c : Dev nD) (t : Fin cfg1.N) (r : Fin 8) (k : Fin 1024) :
    iblk1 V c 1 t (ix2 r k) = V c main_v15 (ix2 (row t r) ⟨2048 + k, by omega⟩) := by
  blk_ext [iblk1, idx1 t, row]
theorem blk1_v (c : Dev nD) (t : Fin cfg1.N) (r : Fin 8) (k : Fin 1024) :
    iblk1 V c 2 t (ix2 r k) = V c main_v15 (ix2 (row t r) ⟨3072 + k, by omega⟩) := by
  blk_ext [iblk1, idx1 t, row]
theorem blk1_p (c : Dev nD) (t : Fin cfg1.N) (l : Fin 2) (k : Fin 1024) :
    iblk1 V c 3 t (ix2 l k) = V c main_arg4 (ix2 l k) := by
  blk_ext [iblk1, idx1 t]
theorem blk1_h (c : Dev nD) (t : Fin cfg1.N) (k : Fin 1024) :
    iblk1 V c 4 t (ix2 0 k) = V c main_arg5 (ix2 0 k) := by
  blk_ext [iblk1, idx1 t]
theorem blk1_s (c : Dev nD) (t : Fin cfg1.N) (r : Fin 8) (h : Fin 8) (i j : Fin 128) :
    iblk1 V c 5 t (ix4 r h i j) = V c main_v16 (ix4 (row t r) h i j) := by
  blk_ext [iblk1, idx1 t, row]
end
theorem emb6 (t : Fin cfg1.N) (y) : (win1_6.blk t).view.emb y = ix4 (row t (y 0)) (y 1) (y 2) (y 3) := by
  blk_ext [idx1 t, row]
theorem emb7 (t : Fin cfg1.N) (y) : (win1_7.blk t).view.emb y = ix2 (row t (y 0)) (y 1) := by
  blk_ext [idx1 t, row]

end Cert.KernelIdeal.Step

end
-- ==== Proof.StepValue.lean ====
/- The arrays of the recurrence step: what each boundary of @main holds, element by element. -/
module

public import proofs.«01_k».proof.Proof.StepHead
public import proofs.«01_k».proof.Proof.StepIn
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Step

open Cert.KernelIdeal Cert.KernelIdeal.Gen Cert.StepSpec
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

theorem emb3 (t : Fin cfg0.N) (y) : (win0_3.blk t).view.emb y = ix2 (y 0) (y 1) := by
  blk_ext [idx0 t]

/-- The array of projections the first kernel leaves. -/
def pArr (c : Dev nD) : FVec Ideal S128x7168 .f32 := fun y => proj (aX m c) (aG m c) (aW m c) (y 0) (y 1)

theorem k0_at (x : FVec Ideal S128x1024 .f32) (g : FVec Ideal S1x1024 .f32) (w : FVec Ideal S1024x7168 .bf16) (y : S128x7168.Idx) :
    k0_pay1 (F := Ideal) x g w y = proj (fun b k => x (ix2 b k)) (fun k => g (ix2 0 k)) (fun k n => w (ix2 k n)) (y 0) (y 1) := by
  have e : y = ix2 (y 0) (y 1) := by funext a; fin_cases a <;> rfl
  exact (congrArg (k0_pay1 (F := Ideal) x g w) e).trans (k0_apply x g w (y 0) (y 1))

theorem final0 (c : Dev nD) : (dat0 (V1 m ρ) c).arrAt 3 cfg0.N = pArr m c := by
  refine (dat0 (V1 m ρ) c).arrAt_eq_of_covers 3 (pArr m c) (by decide +kernel) fun t _ y => ?_
  blk_simp
  rw [after0_3, out0_3_eq, emb3]
  refine (k0_at _ _ _ y).trans ?_
  show _ = proj (aX m c) (aG m c) (aW m c) (y 0) (y 1)
  congr 1
  · funext b k; exact (blk0_x _ c t b k).trans (V1_x m ρ c b k)
  · funext k; exact (blk0_g _ c t k).trans (congrFun (W1_args m ρ c main_arg2 (by decide)) _)
  · funext k n; exact (blk0_w _ c t k n).trans (V1_w m ρ c k n)

/-- What the second kernel reads: the projections, -/
theorem V3_p (c : Dev nD) (b : Fin 128) (n : Fin 7168) : V3 m ρ c main_v15 (ix2 b n) = proj (aX m c) (aG m c) (aW m c) b n := by
  have h : V3 m ρ c main_v15 = pArr m c := (W3_of m ρ c main_v15 (by decide)).trans ((W2_arr m ρ c 3).trans (final0 m ρ c))
  rw [h]; rfl
/-- the gates' bounds -/
theorem V3_l (c : Dev nD) (l : Fin 2) (n : Fin 1024) : V3 m ρ c main_arg4 (ix2 l n) = aP m c l n :=
  congrFun (W3_args m ρ c main_arg4 (by decide)) _
/-- and the scales of the normalisation. -/
theorem V3_h (c : Dev nD) (n : Fin 1024) : V3 m ρ c main_arg5 (ix2 0 n) = aH m c n :=
  congrFun (W3_args m ρ c main_arg5 (by decide)) _

/-- A block's new state is the step's at the block's rows. -/
theorem blk_state (c : Dev nD) (t : Fin cfg1.N) (r h : Fin 8) (i j : Fin 128)
    (x0 x1 x2 : FVec Ideal S8x1024 .f32) (x3 : FVec Ideal S2x1024 .f32) (x4 : FVec Ideal S1x1024 .f32) (x5 : FVec Ideal S8x8x128x128 .f32)
    (h1 : ∀ r k, x1 (ix2 r k) = proj (aX m c) (aG m c) (aW m c) (row t r) ⟨2048 + k, by omega⟩)
    (h2 : ∀ r k, x2 (ix2 r k) = proj (aX m c) (aG m c) (aW m c) (row t r) ⟨3072 + k, by omega⟩)
    (h3 : ∀ l k, x3 (ix2 l k) = aP m c l k) (h5 : ∀ r h i j, x5 (ix4 r h i j) = aS m c (row t r) h i j) :
    blkState (k1_pay309 (F := Ideal) x0 x1 x2 x3 x4 x5) (k1_pay310 (F := Ideal) x0 x1 x2 x3 x4 x5) (k1_pay312 (F := Ideal) x0 x1 x2 x3 x4 x5) x5 r h i j
      = state (aX m c) (aS m c) (aG m c) (aW m c) (aP m c) (row t r) h i j := by
  have e3 : (fun l n => x3 (ix2 l n)) = aP m c := by funext l n; exact h3 l n
  unfold blkState StepSpec.state
  rw [pay_f, pay_k, pay_v, h1, h2, h5, e3]
  simp only [Nat.mul_comm 128]

/-- A block's output is the step's at the block's rows. -/
theorem blk_norm (c : Dev nD) (t : Fin cfg1.N) (r h : Fin 8) (j : Fin 128) (n : Fin 1024) (hh : (h : ℕ) = n / 128) (hj : (j : ℕ) = n % 128)
    (x0 x1 x2 : FVec Ideal S8x1024 .f32) (x3 : FVec Ideal S2x1024 .f32) (x4 : FVec Ideal S1x1024 .f32) (x5 : FVec Ideal S8x8x128x128 .f32)
    (h0 : ∀ r k, x0 (ix2 r k) = proj (aX m c) (aG m c) (aW m c) (row t r) ⟨1024 + k, by omega⟩)
    (h1 : ∀ r k, x1 (ix2 r k) = proj (aX m c) (aG m c) (aW m c) (row t r) ⟨2048 + k, by omega⟩)
    (h2 : ∀ r k, x2 (ix2 r k) = proj (aX m c) (aG m c) (aW m c) (row t r) ⟨3072 + k, by omega⟩)
    (h3 : ∀ l k, x3 (ix2 l k) = aP m c l k) (h4 : ∀ k, x4 (ix2 0 k) = aH m c k) (h5 : ∀ r h i j, x5 (ix4 r h i j) = aS m c (row t r) h i j) :
    blkNorm (k1_pay308 (F := Ideal) x0 x1 x2 x3 x4 x5) (k1_pay309 (F := Ideal) x0 x1 x2 x3 x4 x5) (k1_pay310 (F := Ideal) x0 x1 x2 x3 x4 x5) (k1_pay312 (F := Ideal) x0 x1 x2 x3 x4 x5) x5 x4 r h j
      = norm (aX m c) (aS m c) (aG m c) (aW m c) (aP m c) (aH m c) (row t r) n := by
  have eo : ∀ j, blkOut (k1_pay308 (F := Ideal) x0 x1 x2 x3 x4 x5) (k1_pay309 (F := Ideal) x0 x1 x2 x3 x4 x5) (k1_pay310 (F := Ideal) x0 x1 x2 x3 x4 x5) (k1_pay312 (F := Ideal) x0 x1 x2 x3 x4 x5) x5 r h j
      = out (aX m c) (aS m c) (aG m c) (aW m c) (aP m c) (row t r) h j := fun j => by
    unfold blkOut StepSpec.out
    refine Finset.sum_congr rfl fun d _ => ?_
    rw [blk_state m c t r h d j x0 x1 x2 x3 x4 x5 h1 h2 h3 h5, pay_q, h0]
    simp only [Nat.mul_comm 128]
  have en : (⟨128 * (h : ℕ) + j, by omega⟩ : Fin 1024) = n := Fin.ext (by show 128 * (h : ℕ) + j = n; omega)
  have eh : (⟨(n : ℕ) / 128, by omega⟩ : Fin 8) = h := Fin.ext hh.symm
  have ej : (⟨(n : ℕ) % 128, by omega⟩ : Fin 128) = j := Fin.ext hj.symm
  unfold blkNorm StepSpec.norm
  simp only [eo]
  rw [en, h4, eh, ej]

/-- The array of new states the second kernel leaves -/
def sArr (c : Dev nD) : FVec Ideal S128x8x128x128 .f32 := fun y => state (aX m c) (aS m c) (aG m c) (aW m c) (aP m c) (y 0) (y 1) (y 2) (y 3)
/-- and its outputs. -/
def oArr (c : Dev nD) : FVec Ideal S128x1024 .f32 := fun y => norm (aX m c) (aS m c) (aG m c) (aW m c) (aP m c) (aH m c) (y 0) (y 1)

theorem final1_6 (c : Dev nD) : (dat1 (V3 m ρ) c).arrAt 6 cfg1.N = sArr m c := by
  refine (dat1 (V3 m ρ) c).arrAt_eq_of_covers 6 (sArr m c) (by decide +kernel) fun t _ y => ?_
  blk_simp
  rw [after1_6, emb6]
  refine (out1_6_apply _ _ _ _ _ _ y).trans ?_
  exact blk_state m c t (y 0) (y 1) (y 2) (y 3) _ _ _ _ _ _
    (fun r k => (blk1_f _ c t r k).trans (V3_p m ρ c _ _)) (fun r k => (blk1_v _ c t r k).trans (V3_p m ρ c _ _))
    (fun l k => (blk1_p _ c t l k).trans (V3_l m ρ c l k)) (fun r h i j => (blk1_s _ c t r h i j).trans (V3_s m ρ c _ h i j))

theorem final1_7 (c : Dev nD) : (dat1 (V3 m ρ) c).arrAt 7 cfg1.N = oArr m c := by
  refine (dat1 (V3 m ρ) c).arrAt_eq_of_covers 7 (oArr m c) (by decide +kernel) fun t _ y => ?_
  blk_simp
  rw [after1_7, emb7]
  refine (out1_7_apply _ _ _ _ _ _ y).trans ?_
  exact blk_norm m c t (y 0) _ _ (y 1) rfl rfl _ _ _ _ _ _
    (fun r k => (blk1_q _ c t r k).trans (V3_p m ρ c _ _))
    (fun r k => (blk1_f _ c t r k).trans (V3_p m ρ c _ _)) (fun r k => (blk1_v _ c t r k).trans (V3_p m ρ c _ _))
    (fun l k => (blk1_p _ c t l k).trans (V3_l m ρ c l k)) (fun k => (blk1_h _ c t k).trans (V3_h m ρ c k))
    (fun r h i j => (blk1_s _ c t r h i j).trans (V3_s m ρ c _ h i j))

/-- The new state @main returns, element by element. -/
theorem res_state (c : Dev nD) (b : Fin 128) (h : Fin 8) (i j : Fin 128) :
    W7 m ρ c main_v21 (ix5 0 b h i j) = state (aX m c) (aS m c) (aG m c) (aW m c) (aP m c) b h i j := by
  have e : W6 m ρ c main_v17_0 = sArr m c :=
    (W6_of m ρ c main_v17_0 (by decide)).trans ((W5_of m ρ c main_v17_0 (by decide)).trans ((W4_arr m ρ c 6).trans (final1_6 m ρ c)))
  rw [W7_s, e]; rfl
/-- The outputs as the last kernel finds them. -/
theorem V5_o (c : Dev nD) (b : Fin 128) (n : Fin 1024) :
    V5 m ρ c main_v17_1 (ix2 b n) = norm (aX m c) (aS m c) (aG m c) (aW m c) (aP m c) (aH m c) b n := by
  have e : V5 m ρ c main_v17_1 = oArr m c := (W5_of m ρ c main_v17_1 (by decide)).trans ((W4_arr m ρ c 7).trans (final1_7 m ρ c))
  rw [e]; rfl

end Cert.KernelIdeal.Step

end
-- ==== Proof.StepRef.lean ====
/- The reference's recurrence step, named part by part and read at coordinates. -/
module

public import proofs.«01_k».proof.Proof.StepSpec
public import proofs.«01_k».proof.Proof.Gen.ReferenceIdeal.Run
public import Idealize.ShloMosaic.Lib.Pointwise

@[expose] public section

set_option maxRecDepth 16384

noncomputable section

namespace Cert.ReferenceIdeal.Step

open Cert.ReferenceIdeal Cert.ReferenceIdeal.Gen Cert.ReferenceIdeal.Value
open Idealize.ShloMosaic Idealize.ShloMosaic.TcCoe
open Idealize.SL.Sem

/-- The input projection of the normalised tokens. -/
def rProj (x : FVec Ideal S128x1x1024 .f32) (gm : FVec Ideal S1x1024 .f32) (w : FVec Ideal S1x1024x7168 .f32) : FVec Ideal S128x1x7168 .f32 :=
  Host.dotGeneral dot_S128x1x1024_S1024x7168_S128x1x7168_2_0_01_1_n_n none (mulf (mulf x (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf x x) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 (shapeCast _ gm shapeCasts_S1x1024_S1024)))) (shapeCast _ w shapeCasts_S1x1024x7168_S1024x7168)

/-- The cumulative softmax over the layers. -/
def rCum (lbp : FVec Ideal S2x1024 .f32) : FVec Ideal S2x1024 .f32 :=
  Host.reduceWindowAdd ![2, 1] ![1, 1] ![1, 0] ![0, 0] (Host.divf (Host.exp (subf lbp (broadcastInDim S2x1024 ![0, 1] bcast_S1x1024_S2x1024_0_1 (broadcastInDim S1x1024 ![1] bcast_S1024_S1x1024_1 (maximumf (broadcastInDim S1024 ![] bcast_S_S1024 (constant S_ .f32 0xFF800000#32)) (Host.reduce FloatOps.maximumf lbp (constant S_ .f32 0xFF800000#32) reducesTo_S2x1024_S1024_d0 h_S_)))))) (broadcastInDim S2x1024 ![0, 1] bcast_S1x1024_S2x1024_0_1 (broadcastInDim S1x1024 ![1] bcast_S1024_S1x1024_1 (Host.reduceAdd (Host.exp (subf lbp (broadcastInDim S2x1024 ![0, 1] bcast_S1x1024_S2x1024_0_1 (broadcastInDim S1x1024 ![1] bcast_S1024_S1x1024_1 (maximumf (broadcastInDim S1024 ![] bcast_S_S1024 (constant S_ .f32 0xFF800000#32)) (Host.reduce FloatOps.maximumf lbp (constant S_ .f32 0xFF800000#32) reducesTo_S2x1024_S1024_d0 h_S_)))))) (constant S_ .f32 0x00000000#32) reducesTo_S2x1024_S1024_d0 h_S_)))) (broadcastInDim S_ ![] bcast_S_S_ (constant S_ .f32 0x00000000#32)) reduceWindows_S2x1024_S2x1024_w2s1p1_0_w1s1p0_0 h_S_

/-- The lower bound of the gates: its first row. -/
def rLb (lbp : FVec Ideal S2x1024 .f32) : FVec Ideal S1024 .f32 :=
  shapeCast _ (extractStridedSlice S1x1024 ![0, 0] (rCum lbp) slices_S2x1024_S1x1024_0_0) shapeCasts_S1x1024_S1024

/-- The forget gates. -/
def rFg (x : FVec Ideal S128x1x1024 .f32) (gm : FVec Ideal S1x1024 .f32) (w : FVec Ideal S1x1024x7168 .f32) (lbp : FVec Ideal S2x1024 .f32) : FVec Ideal S128x1x1024 .f32 :=
  addf (broadcastInDim S128x1x1024 ![0, 1, 2] bcast_S1x1x1024_S128x1x1024_0_1_2 (broadcastInDim S1x1x1024 ![2] bcast_S1024_S1x1x1024_2 (rLb lbp))) (mulf (broadcastInDim S128x1x1024 ![0, 1, 2] bcast_S1x1x1024_S128x1x1024_0_1_2 (broadcastInDim S1x1x1024 ![2] bcast_S1024_S1x1x1024_2 (subf (broadcastInDim S1024 ![] bcast_S_S1024 (constant S_ .f32 0x3F800000#32)) (rLb lbp)))) (Host.divf (broadcastInDim S128x1x1024 ![] bcast_S_S128x1x1024 (constant S_ .f32 0x3F800000#32)) (addf (broadcastInDim S128x1x1024 ![] bcast_S_S128x1x1024 (constant S_ .f32 0x3F800000#32)) (Host.exp (Host.negf (extractStridedSlice S128x1x1024 ![0, 0, 2048] (rProj x gm w) slices_S128x1x7168_S128x1x1024_0_0_2048))))))

/-- The keys. -/
def rKf (x : FVec Ideal S128x1x1024 .f32) (gm : FVec Ideal S1x1024 .f32) (w : FVec Ideal S1x1024x7168 .f32) (lbp : FVec Ideal S2x1024 .f32) : FVec Ideal S128x1x1024 .f32 :=
  subf (broadcastInDim S128x1x1024 ![] bcast_S_S128x1x1024 (constant S_ .f32 0x3F800000#32)) (rFg x gm w lbp)

/-- The queries. -/
def rQf (x : FVec Ideal S128x1x1024 .f32) (gm : FVec Ideal S1x1024 .f32) (w : FVec Ideal S1x1024x7168 .f32) : FVec Ideal S128x1x1024 .f32 :=
  mulf (mulf (extractStridedSlice S128x1x1024 ![0, 0, 1024] (rProj x gm w) slices_S128x1x7168_S128x1x1024_0_0_1024) (Host.divf (broadcastInDim S128x1x1024 ![] bcast_S_S128x1x1024 (constant S_ .f32 0x3F800000#32)) (addf (broadcastInDim S128x1x1024 ![] bcast_S_S128x1x1024 (constant S_ .f32 0x3F800000#32)) (Host.exp (Host.negf (extractStridedSlice S128x1x1024 ![0, 0, 1024] (rProj x gm w) slices_S128x1x7168_S128x1x1024_0_0_1024)))))) (broadcastInDim S128x1x1024 ![] bcast_S_S128x1x1024 (constant S_ .f32 0x3DB504F3#32))

/-- The new state. -/
def rState (x : FVec Ideal S128x1x1024 .f32) (st : FVec Ideal S1x128x8x128x128 .f32) (gm : FVec Ideal S1x1024 .f32) (w : FVec Ideal S1x1024x7168 .f32) (lbp : FVec Ideal S2x1024 .f32) : FVec Ideal S128x8x128x128 .f32 :=
  addf (mulf (broadcastInDim S128x8x128x128 ![0, 1, 2, 3] bcast_S128x8x128x1_S128x8x128x128_0_1_2_3 (broadcastInDim S128x8x128x1 ![0, 1, 2] bcast_S128x8x128_S128x8x128x1_0_1_2 (shapeCast _ (rFg x gm w lbp) shapeCasts_S128x1x1024_S128x8x128))) (shapeCast _ st shapeCasts_S1x128x8x128x128_S128x8x128x128)) (mulf (broadcastInDim S128x8x128x128 ![0, 1, 2, 3] bcast_S128x8x128x1_S128x8x128x128_0_1_2_3 (broadcastInDim S128x8x128x1 ![0, 1, 2] bcast_S128x8x128_S128x8x128x1_0_1_2 (shapeCast _ (rKf x gm w lbp) shapeCasts_S128x1x1024_S128x8x128))) (broadcastInDim S128x8x128x128 ![0, 1, 2, 3] bcast_S128x8x1x128_S128x8x128x128_0_1_2_3 (broadcastInDim S128x8x1x128 ![0, 1, 3] bcast_S128x8x128_S128x8x1x128_0_1_3 (shapeCast _ (extractStridedSlice S128x1x1024 ![0, 0, 3072] (rProj x gm w) slices_S128x1x7168_S128x1x1024_0_0_3072) shapeCasts_S128x1x1024_S128x8x128))))

/-- The outputs: the queries contracted with the new state. -/
def rOut (x : FVec Ideal S128x1x1024 .f32) (st : FVec Ideal S1x128x8x128x128 .f32) (gm : FVec Ideal S1x1024 .f32) (w : FVec Ideal S1x1024x7168 .f32) (lbp : FVec Ideal S2x1024 .f32) : FVec Ideal S128x8x128 .f32 :=
  Host.dotGeneral dot_S128x8x128_S128x8x128x128_S128x8x128_2_2_n_3_01_01 none (shapeCast _ (rQf x gm w) shapeCasts_S128x1x1024_S128x8x128) (rState x st gm w lbp)

/-- The new state with its leading axis. -/
def rRes0 (x : FVec Ideal S128x1x1024 .f32) (st : FVec Ideal S1x128x8x128x128 .f32) (gm : FVec Ideal S1x1024 .f32) (w : FVec Ideal S1x1024x7168 .f32) (lbp : FVec Ideal S2x1024 .f32) : FVec Ideal S1x128x8x128x128 .f32 :=
  broadcastInDim S1x128x8x128x128 ![1, 2, 3, 4] bcast_S128x8x128x128_S1x128x8x128x128_1_2_3_4 (rState x st gm w lbp)

/-- The outputs, normalised head by head and scaled. -/
def rRes1 (x : FVec Ideal S128x1x1024 .f32) (st : FVec Ideal S1x128x8x128x128 .f32) (gm : FVec Ideal S1x1024 .f32) (w : FVec Ideal S1x1024x7168 .f32) (lbp : FVec Ideal S2x1024 .f32) (hg : FVec Ideal S1x1024 .f32) : FVec Ideal S128x1x1024 .f32 :=
  shapeCast _ (mulf (mulf (rOut x st gm w lbp) (broadcastInDim S128x8x128 ![0, 1, 2] bcast_S128x8x1_S128x8x128_0_1_2 (Host.rsqrt (addf (Host.divf (broadcastInDim S128x8x1 ![0, 1] bcast_S128x8_S128x8x1_0_1 (Host.reduceAdd (mulf (rOut x st gm w lbp) (rOut x st gm w lbp)) (constant S_ .f32 0x00000000#32) reducesTo_S128x8x128_S128x8_d2 h_S_)) (broadcastInDim S128x8x1 ![] bcast_S_S128x8x1 (constant S_ .f32 0x43000000#32))) (broadcastInDim S128x8x1 ![] bcast_S_S128x8x1 (constant S_ .f32 0x358637BD#32)))))) (broadcastInDim S128x8x128 ![0, 1, 2] bcast_S1x8x128_S128x8x128_0_1_2 (broadcastInDim S1x8x128 ![1, 2] bcast_S8x128_S1x8x128_1_2 (shapeCast _ (shapeCast _ hg shapeCasts_S1x1024_S1024) shapeCasts_S1024_S8x128)))) shapeCasts_S128x8x128_S128x1x1024

theorem rProj_apply (x : FVec Ideal S128x1x1024 .f32) (gm : FVec Ideal S1x1024 .f32) (w : FVec Ideal S1x1024x7168 .f32) (b : Fin 128) (n : Fin 7168) :
    rProj x gm w (ix3 b 0 n) = StepSpec.proj (fun b k => x (ix3 b 0 k)) (fun k => gm (ix2 0 k)) (fun k n => w (ix3 0 k n)) b n := by
  pointwise [rProj, StepSpec.proj]

theorem foldl_two (g : Fin 2 → EReal) : List.foldl (fun r n => r + g n) 0 (List.finRange 2) = 0 + g 0 + g 1 := rfl

/-- Row 0 of a running sum over two rows, the window padded by one row of zeros before, is row 0. -/
theorem cum_zero (X : FVec Ideal S2x1024 .f32) (n : Fin 1024) :
    Host.reduceWindowAdd (F := Ideal) ![2, 1] ![1, 1] ![1, 0] ![0, 0] X (broadcastInDim S_ ![] bcast_S_S_ (constant S_ .f32 0x00000000#32)) reduceWindows_S2x1024_S2x1024_w2s1p1_0_w1s1p0_0 h_S_ (ix2 0 n)
      = X (ix2 0 n) := by
  have z : (broadcastInDim S_ ![] bcast_S_S_ (constant (F := Ideal) S_ .f32 0x00000000#32)) (Shape.Idx.first h_S_) = (0 : EReal) := by
    pointwise
  have q : ∀ n : Fin 2, (((⟨2, ![2, 1]⟩ : Shape).rowMajor.symm n) 0).val = n.val ∧ (((⟨2, ![2, 1]⟩ : Shape).rowMajor.symm n) 1).val = 0 := by decide
  unfold Host.reduceWindowAdd
  rw [Ideal.hostReduceWindowAdd_def]
  unfold Ideal.hostReduceWindowAdd Host.reduceWindow
  rw [z]
  refine (foldl_two _).trans ?_
  refine (congrArg₂ (· + ·) (congrArg ((0 : EReal) + ·) (dif_neg ?_)) (dif_pos ?_)).trans ?_
  · intro h
    have h0 := (h 0).1
    have := (q 0).1
    simp at h0
    omega
  · intro a
    have q0 := (q 1).1
    have q1 := (q 1).2
    fin_cases a
    · simp; omega
    · simp; omega
  · have q0 := (q 1).1
    have q1 := (q 1).2
    simp only [zero_add, add_zero]
    refine congrArg X (funext fun a => Fin.ext ?_)
    fin_cases a
    · simp; omega
    · simp; omega

theorem rLb_apply (lbp : FVec Ideal S2x1024 .f32) (n : Fin 1024) :
    rLb lbp (ix1 n) = StepSpec.lb (fun l n => lbp (ix2 l n)) n := by
  refine (show rLb lbp (ix1 n) = rCum lbp (ix2 0 n) by pointwise [rLb]).trans ?_
  refine (cum_zero _ n).trans ?_
  have e : ∀ n : Fin 1024, max (Ideal.ofBits .f32 0xFF800000#32) (Finset.fold max (Ideal.ofBits .f32 0xFF800000#32) (fun l : Fin 2 => lbp (ix2 l n)) Finset.univ)
      = Finset.fold max (Ideal.ofBits .f32 0xFF800000#32) (fun l : Fin 2 => lbp (ix2 l n)) Finset.univ :=
    fun n => max_eq_right ((Finset.le_fold_max _).2 (Or.inl le_rfl))
  pointwise [StepSpec.lb]
  simp only [e]

theorem rFg_apply (x : FVec Ideal S128x1x1024 .f32) (gm : FVec Ideal S1x1024 .f32) (w : FVec Ideal S1x1024x7168 .f32) (lbp : FVec Ideal S2x1024 .f32) (b : Fin 128) (n : Fin 1024) :
    rFg x gm w lbp (ix3 b 0 n) = StepSpec.fg (fun l n => lbp (ix2 l n)) n (rProj x gm w (ix3 b 0 ⟨2048 + n, by omega⟩)) := by
  pointwise [rFg, StepSpec.fg, StepSpec.sig, rLb_apply]
  rw [zero_sub]

theorem rKf_apply (x : FVec Ideal S128x1x1024 .f32) (gm : FVec Ideal S1x1024 .f32) (w : FVec Ideal S1x1024x7168 .f32) (lbp : FVec Ideal S2x1024 .f32) (b : Fin 128) (n : Fin 1024) :
    rKf x gm w lbp (ix3 b 0 n) = 1 - rFg x gm w lbp (ix3 b 0 n) := by
  pointwise [rKf]

theorem rQf_apply (x : FVec Ideal S128x1x1024 .f32) (gm : FVec Ideal S1x1024 .f32) (w : FVec Ideal S1x1024x7168 .f32) (b : Fin 128) (n : Fin 1024) :
    rQf x gm w (ix3 b 0 n) = StepSpec.qf (rProj x gm w (ix3 b 0 ⟨1024 + n, by omega⟩)) := by
  pointwise [rQf, StepSpec.qf, StepSpec.sig]
  rw [zero_sub]

theorem rState_apply (x : FVec Ideal S128x1x1024 .f32) (st : FVec Ideal S1x128x8x128x128 .f32) (gm : FVec Ideal S1x1024 .f32) (w : FVec Ideal S1x1024x7168 .f32) (lbp : FVec Ideal S2x1024 .f32)
    (b : Fin 128) (h : Fin 8) (i j : Fin 128) :
    rState x st gm w lbp (ix4 b h i j) = StepSpec.state (fun b k => x (ix3 b 0 k)) (fun b h i j => st (ix5 0 b h i j)) (fun k => gm (ix2 0 k)) (fun k n => w (ix3 0 k n)) (fun l n => lbp (ix2 l n)) b h i j := by
  pointwise [rState]
  rw [rKf_apply, rFg_apply, rProj_apply, rProj_apply]
  rfl

theorem rOut_apply (x : FVec Ideal S128x1x1024 .f32) (st : FVec Ideal S1x128x8x128x128 .f32) (gm : FVec Ideal S1x1024 .f32) (w : FVec Ideal S1x1024x7168 .f32) (lbp : FVec Ideal S2x1024 .f32)
    (b : Fin 128) (h : Fin 8) (j : Fin 128) :
    rOut x st gm w lbp (ix3 b h j) = StepSpec.out (fun b k => x (ix3 b 0 k)) (fun b h i j => st (ix5 0 b h i j)) (fun k => gm (ix2 0 k)) (fun k n => w (ix3 0 k n)) (fun l n => lbp (ix2 l n)) b h j := by
  pointwise [rOut]
  refine Finset.sum_congr rfl fun d _ => ?_
  rw [rQf_apply, rProj_apply, rState_apply]

/-- The new state, element by element. -/
theorem rRes0_apply (x : FVec Ideal S128x1x1024 .f32) (st : FVec Ideal S1x128x8x128x128 .f32) (gm : FVec Ideal S1x1024 .f32) (w : FVec Ideal S1x1024x7168 .f32) (lbp : FVec Ideal S2x1024 .f32)
    (b : Fin 128) (h : Fin 8) (i j : Fin 128) :
    rRes0 x st gm w lbp (ix5 0 b h i j) = StepSpec.state (fun b k => x (ix3 b 0 k)) (fun b h i j => st (ix5 0 b h i j)) (fun k => gm (ix2 0 k)) (fun k n => w (ix3 0 k n)) (fun l n => lbp (ix2 l n)) b h i j := by
  pointwise [rRes0]
  exact rState_apply x st gm w lbp b h i j

/-- The outputs, element by element. -/
theorem rRes1_apply (x : FVec Ideal S128x1x1024 .f32) (st : FVec Ideal S1x128x8x128x128 .f32) (gm : FVec Ideal S1x1024 .f32) (w : FVec Ideal S1x1024x7168 .f32) (lbp : FVec Ideal S2x1024 .f32)
    (hg : FVec Ideal S1x1024 .f32) (b : Fin 128) (n : Fin 1024) :
    rRes1 x st gm w lbp hg (ix3 b 0 n) = StepSpec.norm (fun b k => x (ix3 b 0 k)) (fun b h i j => st (ix5 0 b h i j)) (fun k => gm (ix2 0 k)) (fun k n => w (ix3 0 k n)) (fun l n => lbp (ix2 l n)) (fun k => hg (ix2 0 k)) b n := by
  pointwise [rRes1]
  simp only [rOut_apply, StepSpec.norm]

end Cert.ReferenceIdeal.Step

end
-- ==== Proof.TailSpec.lean ====
/- The rest of a decoding step over plain functions of the extended reals: the convolution branch, the output projections,
   the gated merge, the residual and the norm after it. `P` is the input projection, `K` the kept rows of the convolution,
   `O` the normalised output of the recurrence. -/
module

public import proofs.«01_k».proof.Proof.StepSpec

@[expose] public section

noncomputable section

namespace Cert.StepSpec

open Idealize.ShloMosaic

/-- A number times its logistic. -/
def silu (z : EReal) : EReal := z * sig z

/-- The convolution's new row: its first 512 projected lanes under the gate of the next 512. -/
def glu (P : Fin 128 → Fin 7168 → EReal) (b : Fin 128) (n : Fin 512) : EReal := P b ⟨n, by omega⟩ * sig (P b ⟨512 + n, by omega⟩)

/-- The 31 rows under the convolution: thirty kept, then the new one. -/
def rows (K : Fin 128 → Fin 30 → Fin 512 → EReal) (P : Fin 128 → Fin 7168 → EReal) (b : Fin 128) (t : Fin 31) (n : Fin 512) : EReal :=
  if h : (t : ℕ) < 30 then K b ⟨t, h⟩ n else glu P b n

/-- The convolution's output: the rows under their taps, and a bias. -/
def conv (K : Fin 128 → Fin 30 → Fin 512 → EReal) (P : Fin 128 → Fin 7168 → EReal) (cw : Fin 31 → Fin 512 → EReal) (cb : Fin 512 → EReal)
    (b : Fin 128) (n : Fin 512) : EReal := (∑ t : Fin 31, rows K P b t n * cw t n) + cb n

/-- A row less its mean. -/
def centred (c : Fin 128 → Fin 512 → EReal) (b : Fin 128) (n : Fin 512) : EReal :=
  c b n - Ideal.div (∑ l : Fin 512, c b l) (Ideal.ofBits .f32 0x44000000#32)

/-- The layer norm of a row. -/
def lnorm (c : Fin 128 → Fin 512 → EReal) (g h : Fin 512 → EReal) (b : Fin 128) (n : Fin 512) : EReal :=
  centred c b n * Ideal.rsqrt (Ideal.div (∑ l : Fin 512, centred c b l * centred c b l) (Ideal.ofBits .f32 0x44000000#32)
    + Ideal.ofBits .f32 0x358637BD#32) * g n + h n

/-- The convolution branch's output: the normalised convolution, activated and projected. -/
def branchA (c : Fin 128 → Fin 512 → EReal) (g h : Fin 512 → EReal) (wc : Fin 512 → Fin 1024 → EReal) (b : Fin 128) (n : Fin 1024) : EReal :=
  ∑ l : Fin 512, silu (lnorm c g h b l) * wc l n

/-- The recurrence branch's output: its output under the gate, projected. -/
def branchB (P : Fin 128 → Fin 7168 → EReal) (O : Fin 128 → Fin 1024 → EReal) (wh : Fin 1024 → Fin 1024 → EReal) (b : Fin 128) (n : Fin 1024) : EReal :=
  ∑ l : Fin 1024, O b l * silu (P b ⟨4096 + l, by omega⟩) * wh l n

/-- The token plus the gated sum of both branches, projected. -/
def resid (x : Fin 128 → Fin 1024 → EReal) (P : Fin 128 → Fin 7168 → EReal) (A B : Fin 128 → Fin 1024 → EReal) (bg : Fin 2048 → EReal)
    (wo : Fin 1024 → Fin 1024 → EReal) (b : Fin 128) (n : Fin 1024) : EReal :=
  x b n + ∑ l : Fin 1024, (sig (P b ⟨5120 + l, by omega⟩ + bg ⟨l, by omega⟩) * A b l
    + sig (P b ⟨6144 + l, by omega⟩ + bg ⟨1024 + l, by omega⟩) * B b l) * wo l n

/-- A row normalised by its root mean square and scaled. -/
def rnorm (y : Fin 128 → Fin 1024 → EReal) (g : Fin 1024 → EReal) (b : Fin 128) (n : Fin 1024) : EReal :=
  y b n * Ideal.rsqrt (Ideal.div (∑ l : Fin 1024, y b l * y b l) (Ideal.ofBits .f32 0x44800000#32) + Ideal.ofBits .f32 0x358637BD#32) * g n

/-- A sum over 31 rows taken the last first. -/
theorem sum_last_first (f : ℕ → EReal) :
    f 30 + f 0 + f 1 + f 2 + f 3 + f 4 + f 5 + f 6 + f 7 + f 8 + f 9 + f 10 + f 11 + f 12 + f 13 + f 14 + f 15 + f 16 + f 17 + f 18 + f 19
      + f 20 + f 21 + f 22 + f 23 + f 24 + f 25 + f 26 + f 27 + f 28 + f 29 = ∑ t : Fin 31, f t := by
  rw [Fin.sum_univ_eq_sum_range (fun t => f t) 31, Finset.sum_range_succ, add_comm (Finset.sum _ _)]
  simp only [Finset.sum_range_succ, Finset.sum_range_zero, zero_add, ← add_assoc]

end Cert.StepSpec

end
-- ==== Proof.TailTile.lean ====
/- The last kernel of a decoding step: each stored value at an element, over any vectors it is computed from. -/
module

public import proofs.«01_k».proof.Proof.TailSpec
public import proofs.«01_k».proof.Proof.Gen.KernelIdeal.Skeleton
public import Idealize.ShloMosaic.Lib.Pointwise

@[expose] public section

set_option maxRecDepth 16384

noncomputable section

namespace Cert.KernelIdeal.Step

open Cert.KernelIdeal Cert.KernelIdeal.Gen Cert.StepSpec
open Idealize.ShloMosaic Idealize.ShloMosaic.TcCoe Idealize.ShloMosaic.Tactic
open Idealize.SL.Sem

/-! The accumulation over the taps, as many at a time as the kernel's parts take. -/

theorem pay2_apply (v0 : FVec Ideal S128x512 .f32) (v2 : FVec Ideal S128x512 .f32) (v12 : FVec Ideal S1x512 .f32) (v16 : FVec Ideal S128x512 .f32) (v18 : FVec Ideal S1x512 .f32) (v23 : FVec Ideal S128x512 .f32) (v25 : FVec Ideal S1x512 .f32) (v30 : FVec Ideal S128x512 .f32) (v32 : FVec Ideal S1x512 .f32) (b : Fin 128) (n : Fin 512) :
    k2_pay2 (F := Ideal) v0 v2 v12 v16 v18 v23 v25 v30 v32 (ix2 b n) = v0 (ix2 b n) * StepSpec.sig (v2 (ix2 b n)) * v12 (ix2 0 n) + v16 (ix2 b n) * v18 (ix2 0 n) + v23 (ix2 b n) * v25 (ix2 0 n) + v30 (ix2 b n) * v32 (ix2 0 n) := by
  pointwise [k2_pay2, k2_pay1, StepSpec.sig]

theorem pay3_apply (v36 : FVec Ideal S128x512 .f32) (v37 : FVec Ideal S128x512 .f32) (v39 : FVec Ideal S1x512 .f32) (v44 : FVec Ideal S128x512 .f32) (v46 : FVec Ideal S1x512 .f32) (v51 : FVec Ideal S128x512 .f32) (v53 : FVec Ideal S1x512 .f32) (v58 : FVec Ideal S128x512 .f32) (v60 : FVec Ideal S1x512 .f32) (v65 : FVec Ideal S128x512 .f32) (v67 : FVec Ideal S1x512 .f32) (b : Fin 128) (n : Fin 512) :
    k2_pay3 (F := Ideal) v36 v37 v39 v44 v46 v51 v53 v58 v60 v65 v67 (ix2 b n) = v36 (ix2 b n) + v37 (ix2 b n) * v39 (ix2 0 n) + v44 (ix2 b n) * v46 (ix2 0 n) + v51 (ix2 b n) * v53 (ix2 0 n) + v58 (ix2 b n) * v60 (ix2 0 n) + v65 (ix2 b n) * v67 (ix2 0 n) := by
  pointwise [k2_pay3]

theorem pay5_apply (v71 : FVec Ideal S128x512 .f32) (v73 : FVec Ideal S128x512 .f32) (v74 : FVec Ideal S1x512 .f32) (v79 : FVec Ideal S128x512 .f32) (v81 : FVec Ideal S1x512 .f32) (v86 : FVec Ideal S128x512 .f32) (v88 : FVec Ideal S1x512 .f32) (v93 : FVec Ideal S128x512 .f32) (v95 : FVec Ideal S1x512 .f32) (v100 : FVec Ideal S128x512 .f32) (v102 : FVec Ideal S1x512 .f32) (v107 : FVec Ideal S128x512 .f32) (v109 : FVec Ideal S1x512 .f32) (b : Fin 128) (n : Fin 512) :
    k2_pay5 (F := Ideal) v71 v73 v74 v79 v81 v86 v88 v93 v95 v100 v102 v107 v109 (ix2 b n) = v71 (ix2 b n) + v73 (ix2 b n) * v74 (ix2 0 n) + v79 (ix2 b n) * v81 (ix2 0 n) + v86 (ix2 b n) * v88 (ix2 0 n) + v93 (ix2 b n) * v95 (ix2 0 n) + v100 (ix2 b n) * v102 (ix2 0 n) + v107 (ix2 b n) * v109 (ix2 0 n) := by
  pointwise [k2_pay5]

theorem pay6_apply (v113 : FVec Ideal S128x512 .f32) (v114 : FVec Ideal S128x512 .f32) (v116 : FVec Ideal S1x512 .f32) (v121 : FVec Ideal S128x512 .f32) (v123 : FVec Ideal S1x512 .f32) (v128 : FVec Ideal S128x512 .f32) (v130 : FVec Ideal S1x512 .f32) (v135 : FVec Ideal S128x512 .f32) (v137 : FVec Ideal S1x512 .f32) (v142 : FVec Ideal S128x512 .f32) (v144 : FVec Ideal S1x512 .f32) (b : Fin 128) (n : Fin 512) :
    k2_pay6 (F := Ideal) v113 v114 v116 v121 v123 v128 v130 v135 v137 v142 v144 (ix2 b n) = v113 (ix2 b n) + v114 (ix2 b n) * v116 (ix2 0 n) + v121 (ix2 b n) * v123 (ix2 0 n) + v128 (ix2 b n) * v130 (ix2 0 n) + v135 (ix2 b n) * v137 (ix2 0 n) + v142 (ix2 b n) * v144 (ix2 0 n) := by
  pointwise [k2_pay6]

theorem pay8_apply (v148 : FVec Ideal S128x512 .f32) (v150 : FVec Ideal S128x512 .f32) (v151 : FVec Ideal S1x512 .f32) (v156 : FVec Ideal S128x512 .f32) (v158 : FVec Ideal S1x512 .f32) (v163 : FVec Ideal S128x512 .f32) (v165 : FVec Ideal S1x512 .f32) (v170 : FVec Ideal S128x512 .f32) (v172 : FVec Ideal S1x512 .f32) (v177 : FVec Ideal S128x512 .f32) (v179 : FVec Ideal S1x512 .f32) (b : Fin 128) (n : Fin 512) :
    k2_pay8 (F := Ideal) v148 v150 v151 v156 v158 v163 v165 v170 v172 v177 v179 (ix2 b n) = v148 (ix2 b n) + v150 (ix2 b n) * v151 (ix2 0 n) + v156 (ix2 b n) * v158 (ix2 0 n) + v163 (ix2 b n) * v165 (ix2 0 n) + v170 (ix2 b n) * v172 (ix2 0 n) + v177 (ix2 b n) * v179 (ix2 0 n) := by
  pointwise [k2_pay8]

theorem pay9_apply (v184 : FVec Ideal S128x512 .f32) (v186 : FVec Ideal S1x512 .f32) (b : Fin 128) (n : Fin 512) :
    k2_pay9 (F := Ideal) v184 v186 (ix2 b n) = v184 (ix2 b n) * v186 (ix2 0 n) := by
  pointwise [k2_pay9]

theorem pay10_apply (v183 : FVec Ideal S128x512 .f32) (v189 : FVec Ideal S128x512 .f32) (v191 : FVec Ideal S128x512 .f32) (v193 : FVec Ideal S1x512 .f32) (v198 : FVec Ideal S128x512 .f32) (v200 : FVec Ideal S1x512 .f32) (v205 : FVec Ideal S128x512 .f32) (v207 : FVec Ideal S1x512 .f32) (v212 : FVec Ideal S128x512 .f32) (v214 : FVec Ideal S1x512 .f32) (v219 : FVec Ideal S128x512 .f32) (v221 : FVec Ideal S1x512 .f32) (b : Fin 128) (n : Fin 512) :
    k2_pay10 (F := Ideal) v183 v189 v191 v193 v198 v200 v205 v207 v212 v214 v219 v221 (ix2 b n) = v183 (ix2 b n) + v189 (ix2 b n) + v191 (ix2 b n) * v193 (ix2 0 n) + v198 (ix2 b n) * v200 (ix2 0 n) + v205 (ix2 b n) * v207 (ix2 0 n) + v212 (ix2 b n) * v214 (ix2 0 n) + v219 (ix2 b n) * v221 (ix2 0 n) := by
  pointwise [k2_pay10]

/-- The layer norm and the activation. -/
theorem pay12_apply (v225 : FVec Ideal S128x512 .f32) (v230 v231 v232 : FVec Ideal S1x512 .f32) (b : Fin 128) (n : Fin 512) :
    k2_pay12 (F := Ideal) v225 v230 v231 v232 (ix2 b n)
      = silu (lnorm (fun b n => v225 (ix2 b n) + v230 (ix2 0 n)) (fun n => v231 (ix2 0 n)) (fun n => v232 (ix2 0 n)) b n) := by
  pointwise [k2_pay12, silu, lnorm, centred, StepSpec.sig]

/-- The convolution branch's projection. -/
theorem pay14_apply (v263 : FVec Ideal S128x512 .bf16) (v265 : FVec Ideal S512x1024 .bf16) (b : Fin 128) (n : Fin 1024) :
    k2_pay14 (F := Ideal) v263 v265 (ix2 b n) = ∑ l : Fin 512, v263 (ix2 b l) * v265 (ix2 l n) := by
  pointwise [k2_pay14]

/-- The recurrence branch's. -/
theorem pay15_apply (v267 v269 : FVec Ideal S128x1024 .f32) (v281 : FVec Ideal S1024x1024 .bf16) (b : Fin 128) (n : Fin 1024) :
    k2_pay15 (F := Ideal) v267 v269 v281 (ix2 b n) = ∑ l : Fin 1024, v269 (ix2 b l) * silu (v267 (ix2 b l)) * v281 (ix2 l n) := by
  pointwise [k2_pay15, silu, StepSpec.sig]

/-- The merge, its projection and the residual. -/
theorem pay22_apply (v266 v283 v285 v289 : FVec Ideal S128x1024 .f32) (v290 : FVec Ideal S1x2048 .f32) (v292 : FVec Ideal S1024x1024 .bf16)
    (v286 : FVec Ideal S128x1024 .f32) (b : Fin 128) (n : Fin 1024) :
    k2_pay22 (F := Ideal) v266 v283 v285 v289 v290 v292 (k2_pay20 v286 v290) k2_pay21 (ix2 b n)
      = v285 (ix2 b n) + ∑ l : Fin 1024, (StepSpec.sig (v286 (ix2 b l) + v290 (ix2 0 ⟨l, by omega⟩)) * v266 (ix2 b l)
          + StepSpec.sig (v289 (ix2 b l) + v290 (ix2 0 ⟨1024 + l, by omega⟩)) * v283 (ix2 b l)) * v292 (ix2 l n) := by
  pointwise [k2_pay22, k2_pay20, k2_pay21, StepSpec.sig]

/-- The norm of the residual. -/
theorem pay23_apply (v266 v283 v285 v289 : FVec Ideal S128x1024 .f32) (v290 : FVec Ideal S1x2048 .f32) (v292 : FVec Ideal S1024x1024 .bf16)
    (v293 : FVec Ideal S1x1024 .f32) (v298 v299 : FVec Ideal S128x1024 .f32) (b : Fin 128) (n : Fin 1024) :
    k2_pay23 (F := Ideal) v266 v283 v285 v289 v290 v292 v293 v298 v299 (ix2 b n)
      = rnorm (fun b n => k2_pay22 (F := Ideal) v266 v283 v285 v289 v290 v292 v298 v299 (ix2 b n)) (fun n => v293 (ix2 0 n)) b n := by
  pointwise [k2_pay23, rnorm]

/-- A load of one kept row. -/
def ldC (v : FVec Ideal S128x15360 .f32) (o : ℕ) (h : ∀ a, (![0, o] : Fin 2 → Nat) a + S128x512.size a ≤ S128x15360.size a) : FVec Ideal S128x512 .f32 :=
  fun i => View.ld (Val := Elt Ideal) (e' := .f32) v (Rect.unit ![0, o] ![128, 512] h) i

/-- A load of one row of taps. -/
def ldT (v : FVec Ideal S31x512 .f32) (o : ℕ) (h : ∀ a, (![o, 0] : Fin 2 → Nat) a + S1x512.size a ≤ S31x512.size a) : FVec Ideal S1x512 .f32 :=
  fun i => View.ld (Val := Elt Ideal) (e' := .f32) v (Rect.unit ![o, 0] ![1, 512] h) i

/-- A load of 512 columns of the projection. -/
def ldP (v : FVec Ideal S128x7168 .f32) (o : ℕ) (h : ∀ a, (![0, o] : Fin 2 → Nat) a + S128x512.size a ≤ S128x7168.size a) : FVec Ideal S128x512 .f32 :=
  fun i => View.ld (Val := Elt Ideal) (e' := .f32) v (Rect.unit ![0, o] ![128, 512] h) i

/-- A load of 1024 columns of the projection. -/
def ldQ (v : FVec Ideal S128x7168 .f32) (o : ℕ) (h : ∀ a, (![0, o] : Fin 2 → Nat) a + S128x1024.size a ≤ S128x7168.size a) : FVec Ideal S128x1024 .f32 :=
  fun i => View.ld (Val := Elt Ideal) (e' := .f32) v (Rect.unit ![0, o] ![128, 1024] h) i

set_option maxHeartbeats 4000000 in
/-- The convolution's accumulator, as the kernel builds it from its blocks: the new row's tap first, then the kept rows'. -/
def tapsV (x1 : FVec Ideal S128x7168 .f32) (x3 : FVec Ideal S128x15360 .f32) (x5 : FVec Ideal S31x512 .f32) : FVec Ideal S128x512 .f32 :=
  k2_pay10 (k2_pay8 (k2_pay6 (k2_pay5 (k2_pay3 (k2_pay2 (F := Ideal) (ldP x1 0 inb_S128x7168_S128x512_0_0) (ldP x1 512 inb_S128x7168_S128x512_0_512) (ldT x5 30 inb_S31x512_S1x512_30_0) (ldC x3 0 inb_S128x15360_S128x512_0_0) (ldT x5 0 inb_S31x512_S1x512_0_0) (ldC x3 512 inb_S128x15360_S128x512_0_512) (ldT x5 1 inb_S31x512_S1x512_1_0) (ldC x3 1024 inb_S128x15360_S128x512_0_1024) (ldT x5 2 inb_S31x512_S1x512_2_0))
      (ldC x3 1536 inb_S128x15360_S128x512_0_1536) (ldT x5 3 inb_S31x512_S1x512_3_0) (ldC x3 2048 inb_S128x15360_S128x512_0_2048) (ldT x5 4 inb_S31x512_S1x512_4_0) (ldC x3 2560 inb_S128x15360_S128x512_0_2560) (ldT x5 5 inb_S31x512_S1x512_5_0) (ldC x3 3072 inb_S128x15360_S128x512_0_3072) (ldT x5 6 inb_S31x512_S1x512_6_0) (ldC x3 3584 inb_S128x15360_S128x512_0_3584) (ldT x5 7 inb_S31x512_S1x512_7_0))
      (k2_pay4 (ldC x3 4096 inb_S128x15360_S128x512_0_4096)) (ldT x5 8 inb_S31x512_S1x512_8_0) (ldC x3 4608 inb_S128x15360_S128x512_0_4608) (ldT x5 9 inb_S31x512_S1x512_9_0) (ldC x3 5120 inb_S128x15360_S128x512_0_5120) (ldT x5 10 inb_S31x512_S1x512_10_0) (ldC x3 5632 inb_S128x15360_S128x512_0_5632) (ldT x5 11 inb_S31x512_S1x512_11_0) (ldC x3 6144 inb_S128x15360_S128x512_0_6144) (ldT x5 12 inb_S31x512_S1x512_12_0) (ldC x3 6656 inb_S128x15360_S128x512_0_6656) (ldT x5 13 inb_S31x512_S1x512_13_0))
      (ldC x3 7168 inb_S128x15360_S128x512_0_7168) (ldT x5 14 inb_S31x512_S1x512_14_0) (ldC x3 7680 inb_S128x15360_S128x512_0_7680) (ldT x5 15 inb_S31x512_S1x512_15_0) (ldC x3 8192 inb_S128x15360_S128x512_0_8192) (ldT x5 16 inb_S31x512_S1x512_16_0) (ldC x3 8704 inb_S128x15360_S128x512_0_8704) (ldT x5 17 inb_S31x512_S1x512_17_0) (ldC x3 9216 inb_S128x15360_S128x512_0_9216) (ldT x5 18 inb_S31x512_S1x512_18_0))
      (k2_pay7 (ldC x3 9728 inb_S128x15360_S128x512_0_9728)) (ldT x5 19 inb_S31x512_S1x512_19_0) (ldC x3 10240 inb_S128x15360_S128x512_0_10240) (ldT x5 20 inb_S31x512_S1x512_20_0) (ldC x3 10752 inb_S128x15360_S128x512_0_10752) (ldT x5 21 inb_S31x512_S1x512_21_0) (ldC x3 11264 inb_S128x15360_S128x512_0_11264) (ldT x5 22 inb_S31x512_S1x512_22_0) (ldC x3 11776 inb_S128x15360_S128x512_0_11776) (ldT x5 23 inb_S31x512_S1x512_23_0))
      (k2_pay9 (ldC x3 12288 inb_S128x15360_S128x512_0_12288) (ldT x5 24 inb_S31x512_S1x512_24_0))
      (ldC x3 12800 inb_S128x15360_S128x512_0_12800) (ldT x5 25 inb_S31x512_S1x512_25_0) (ldC x3 13312 inb_S128x15360_S128x512_0_13312) (ldT x5 26 inb_S31x512_S1x512_26_0) (ldC x3 13824 inb_S128x15360_S128x512_0_13824) (ldT x5 27 inb_S31x512_S1x512_27_0) (ldC x3 14336 inb_S128x15360_S128x512_0_14336) (ldT x5 28 inb_S31x512_S1x512_28_0) (ldC x3 14848 inb_S128x15360_S128x512_0_14848) (ldT x5 29 inb_S31x512_S1x512_29_0)

/-- The kept rows, from a block of them laid end to end. -/
def kept (x3 : FVec Ideal S128x15360 .f32) (b : Fin 128) (t : Fin 30) (n : Fin 512) : EReal := x3 (ix2 b ⟨t * 512 + n, by omega⟩)

set_option maxHeartbeats 4000000 in
/-- It is the sum over the rows. -/
theorem tapsV_apply (x1 : FVec Ideal S128x7168 .f32) (x3 : FVec Ideal S128x15360 .f32) (x5 : FVec Ideal S31x512 .f32) (b : Fin 128) (n : Fin 512) :
    tapsV x1 x3 x5 (ix2 b n) = ∑ t : Fin 31, rows (kept x3) (fun b n => x1 (ix2 b n)) b t n * x5 (ix2 t n) := by
  let f : ℕ → EReal := fun t => if h : t < 31 then rows (kept x3) (fun b n => x1 (ix2 b n)) b ⟨t, h⟩ n * x5 (ix2 ⟨t, h⟩ n) else 0
  have e : ∑ t : Fin 31, f t = ∑ t : Fin 31, rows (kept x3) (fun b n => x1 (ix2 b n)) b t n * x5 (ix2 t n) :=
    Finset.sum_congr rfl fun t _ => dif_pos t.isLt
  rw [← e, ← sum_last_first]
  unfold tapsV
  rw [pay10_apply, pay8_apply, pay6_apply, pay5_apply, pay3_apply, pay2_apply, pay9_apply]
  have k : ∀ (t : ℕ) (h : t < 30), f t = x3 (ix2 b ⟨t * 512 + n, by omega⟩) * x5 (ix2 ⟨t, by omega⟩ n) := fun t h => by
    show dite _ _ _ = _
    rw [dif_pos (by omega)]
    unfold rows kept
    rw [dif_pos h]
  have u : f 30 = glu (fun b n => x1 (ix2 b n)) b n * x5 (ix2 30 n) := by
    show dite _ _ _ = _
    rw [dif_pos (by omega)]
    unfold rows
    rw [dif_neg (by simp)]
    rfl
  rw [u, k 0 (by omega), k 1 (by omega), k 2 (by omega), k 3 (by omega), k 4 (by omega), k 5 (by omega), k 6 (by omega), k 7 (by omega), k 8 (by omega), k 9 (by omega), k 10 (by omega), k 11 (by omega), k 12 (by omega), k 13 (by omega), k 14 (by omega), k 15 (by omega), k 16 (by omega), k 17 (by omega), k 18 (by omega), k 19 (by omega), k 20 (by omega), k 21 (by omega), k 22 (by omega), k 23 (by omega), k 24 (by omega), k 25 (by omega), k 26 (by omega), k 27 (by omega), k 28 (by omega), k 29 (by omega)]
  pointwise [k2_pay4, k2_pay7, glu, ldC, ldT, ldP]

/-- The residual, as the kernel builds it from its blocks. -/
def x1V (x0 : FVec Ideal S128x1024 .f32) (x1 : FVec Ideal S128x7168 .f32) (x2 : FVec Ideal S128x1024 .f32) (x3 : FVec Ideal S128x15360 .f32)
    (x4 : FVec Ideal S1x2048 .f32) (x5 : FVec Ideal S31x512 .f32) (x6 x7 x8 : FVec Ideal S1x512 .f32) (x9 : FVec Ideal S512x1024 .bf16)
    (x10 x11 : FVec Ideal S1024x1024 .bf16) : FVec Ideal S128x1024 .f32 :=
  k2_pay22 (F := Ideal) (k2_pay14 (k2_pay12 (tapsV x1 x3 x5) x6 x7 x8) (k2_pay13 x9)) (k2_pay15 (ldQ x1 4096 inb_S128x7168_S128x1024_0_4096) x2 x10)
    (k2_pay16 x0) (k2_pay17 (ldQ x1 6144 inb_S128x7168_S128x1024_0_6144)) x4 (k2_pay18 x11) (k2_pay20 (ldQ x1 5120 inb_S128x7168_S128x1024_0_5120) x4) k2_pay21

set_option maxHeartbeats 4000000 in
/-- It is the residual of both branches. -/
theorem x1V_apply (x0 : FVec Ideal S128x1024 .f32) (x1 : FVec Ideal S128x7168 .f32) (x2 : FVec Ideal S128x1024 .f32) (x3 : FVec Ideal S128x15360 .f32)
    (x4 : FVec Ideal S1x2048 .f32) (x5 : FVec Ideal S31x512 .f32) (x6 x7 x8 : FVec Ideal S1x512 .f32) (x9 : FVec Ideal S512x1024 .bf16)
    (x10 x11 : FVec Ideal S1024x1024 .bf16) (b : Fin 128) (n : Fin 1024) :
    x1V x0 x1 x2 x3 x4 x5 x6 x7 x8 x9 x10 x11 (ix2 b n) = resid (fun b n => x0 (ix2 b n)) (fun b n => x1 (ix2 b n))
      (branchA (conv (kept x3) (fun b n => x1 (ix2 b n)) (fun t n => x5 (ix2 t n)) (fun n => x6 (ix2 0 n))) (fun n => x7 (ix2 0 n)) (fun n => x8 (ix2 0 n)) (fun k n => x9 (ix2 k n)))
      (branchB (fun b n => x1 (ix2 b n)) (fun b n => x2 (ix2 b n)) (fun k n => x10 (ix2 k n))) (fun n => x4 (ix2 0 n)) (fun k n => x11 (ix2 k n)) b n := by
  unfold x1V
  rw [pay22_apply]
  simp only [pay14_apply, pay15_apply, pay12_apply, tapsV_apply]
  pointwise [ldQ, k2_pay13, k2_pay16, k2_pay17, k2_pay18, resid, branchA, branchB]
  rfl

end Cert.KernelIdeal.Step

end
-- ==== Proof.TailValue.lean ====
/- The arrays of the last kernel of a decoding step: what it reads and what it leaves, element by element. -/
module

public import proofs.«01_k».proof.Proof.TailTile
public import proofs.«01_k».proof.Proof.StepValue
public import proofs.«01_k».proof.Proof.Gen.KernelIdeal.Frame
public import Idealize.ShloMosaic.Lib.Pipeline.ValueKit
public import Idealize.ShloMosaic.Lib.Pointwise

@[expose] public section

set_option maxRecDepth 16384

noncomputable section

namespace Cert.KernelIdeal.Step

open Cert.KernelIdeal Cert.KernelIdeal.Gen Cert.StepSpec
open Idealize.ShloMosaic Idealize.ShloMosaic.TcCoe Idealize.ShloMosaic.Tactic
open Idealize.SL.Sem
open Idealize.ShloMosaic.Pipeline (Dat Cfg Window)

variable (m : (ℓ : Loc nD τ sig) → Buf (Elt Ideal) ℓ) (ρ : Dev nD → PrngReg)

section
variable (V : (c : Dev nD) → (b : Ref sig .tc) → Buf (Elt Ideal) ((c : Thread nD τ).loc b))

/-- The residual at a point's blocks. -/
abbrev xB (c : Dev nD) (t : Fin cfg2.N) : FVec Ideal S128x1024 .f32 :=
  x1V (iblk2 V c 0 t) (iblk2 V c 1 t) (iblk2 V c 2 t) (iblk2 V c 3 t) (iblk2 V c 4 t) (iblk2 V c 5 t) (iblk2 V c 6 t) (iblk2 V c 7 t) (iblk2 V c 8 t)
    (iblk2 V c 9 t) (iblk2 V c 10 t) (iblk2 V c 11 t)

set_option maxHeartbeats 4000000 in
/-- The first output is the residual. -/
theorem tail_14 (c : Dev nD) (t : Fin cfg2.N) : (dat2 V c).after 14 t = xB V c t := by
  rw [after2_14]
  unfold outsAt2
  frame_out
  rfl

set_option maxHeartbeats 4000000 in
/-- The second is its norm. -/
theorem tail_15 (c : Dev nD) (t : Fin cfg2.N) (b : Fin 128) (n : Fin 1024) :
    (dat2 V c).after 15 t (ix2 b n) = rnorm (fun b n => xB V c t (ix2 b n)) (fun n => iblk2 V c 12 t (ix2 0 n)) b n := by
  have e : (dat2 V c).after 15 t = k2_pay37 (F := Ideal) (k2_pay23 (k2_pay14 (k2_pay12 (tapsV (iblk2 V c 1 t) (iblk2 V c 3 t) (iblk2 V c 5 t)) (iblk2 V c 6 t) (iblk2 V c 7 t) (iblk2 V c 8 t)) (k2_pay13 (iblk2 V c 9 t)))
      (k2_pay15 (ldQ (iblk2 V c 1 t) 4096 inb_S128x7168_S128x1024_0_4096) (iblk2 V c 2 t) (iblk2 V c 10 t))
      (k2_pay16 (iblk2 V c 0 t)) (k2_pay17 (ldQ (iblk2 V c 1 t) 6144 inb_S128x7168_S128x1024_0_6144))
      (iblk2 V c 4 t) (k2_pay18 (iblk2 V c 11 t)) (iblk2 V c 12 t)
      (k2_pay20 (ldQ (iblk2 V c 1 t) 5120 inb_S128x7168_S128x1024_0_5120) (iblk2 V c 4 t)) k2_pay21) := by
    rw [after2_15]
    unfold outsAt2
    frame_out
    rfl
  rw [e]
  exact (pay23_apply _ _ _ _ _ _ _ _ _ b n)

/-- The two stores of the kept rows cover their block. -/
theorem cover_rows (p : FVec Ideal S128x512 .f32) (q : FVec Ideal S128x14848 .f32) (y : S128x15360.Idx) :
    ∃ w ∈ ([⟨Rect.unit ![0, 14848] ![128, 512] inb_S128x15360_S128x512_0_14848, p⟩, ⟨Rect.unit ![0, 0] ![128, 14848] inb_S128x15360_S128x14848_0_0, q⟩] :
      List (View.Piece (Elt Ideal) S128x15360 .f32)), y ∈ w.1.set := by
  have h0 : (y 0 : ℕ) < 128 := (y 0).isLt
  have h1 : (y 1 : ℕ) < 15360 := (y 1).isLt
  by_cases h : (y 1 : ℕ) < 14848
  · have hs : y ∈ (Rect.unit (s := S128x15360) ![0, 0] ![128, 14848] inb_S128x15360_S128x14848_0_0).set := Rect.mem_set_unit.mpr fun a => by
      fin_cases a
      · exact ⟨Nat.zero_le _, by show (y 0 : ℕ) < 0 + 128; omega⟩
      · exact ⟨Nat.zero_le _, by show (y 1 : ℕ) < 0 + 14848; omega⟩
    exact ⟨_, List.mem_cons_of_mem _ (List.mem_singleton.2 rfl), hs⟩
  · have hs : y ∈ (Rect.unit (s := S128x15360) ![0, 14848] ![128, 512] inb_S128x15360_S128x512_0_14848).set := Rect.mem_set_unit.mpr fun a => by
      fin_cases a
      · exact ⟨Nat.zero_le _, by show (y 0 : ℕ) < 0 + 128; omega⟩
      · exact ⟨by show 14848 ≤ (y 1 : ℕ); omega, by show (y 1 : ℕ) < 14848 + 512; omega⟩
    exact ⟨_, List.mem_cons_self, hs⟩

theorem row_new (x1 : FVec Ideal S128x7168 .f32) (x : S128x512.Idx) :
    k2_pay1 (F := Ideal) (ldP x1 0 inb_S128x7168_S128x512_0_0) (ldP x1 512 inb_S128x7168_S128x512_0_512) x = glu (fun b n => x1 (ix2 b n)) (x 0) (x 1) := by
  pointwise [k2_pay1, ldP, glu, StepSpec.sig]

theorem row_kept (x3 : FVec Ideal S128x15360 .f32) (x : S128x14848.Idx) :
    k2_pay11 (F := Ideal) (fun i => View.ld (Val := Elt Ideal) (e' := .f32) x3 (Rect.unit ![0, 512] ![128, 14848] inb_S128x15360_S128x14848_0_512) i) x
      = x3 (ix2 (x 0) ⟨512 + (x 1 : ℕ), by have h : (x 1 : ℕ) < 14848 := (x 1).isLt; omega⟩) := by
  pointwise [k2_pay11]

/-- The thirty rows that the next token's convolution keeps, laid end to end. -/
def nextRows (K : Fin 128 → Fin 30 → Fin 512 → EReal) (P : Fin 128 → Fin 7168 → EReal) : FVec Ideal S128x15360 .f32 := fun y =>
  rows K P (y 0) ⟨(y 1 : ℕ) / 512 + 1, by have h : (y 1 : ℕ) < 15360 := (y 1).isLt; omega⟩ ⟨(y 1 : ℕ) % 512, by omega⟩

set_option maxHeartbeats 4000000 in
/-- The last output holds them. -/
theorem tail_17 (c : Dev nD) (t : Fin cfg2.N) (y : S128x15360.Idx) :
    (dat2 V c).after 17 t y = nextRows (kept (iblk2 V c 3 t)) (fun b n => iblk2 V c 1 t (ix2 b n)) y := by
  rw [after2_17]
  unfold outsAt2
  frame_out
  canon_tiles x h using cover_rows _ _ _
  · refine (row_new _ x).trans ?_
    have x1_lt : (x 1 : ℕ) < 512 := (x 1).isLt
    unfold nextRows rows
    rw [dif_neg (by show ¬ (y 1 : ℕ) / 512 + 1 < 30; omega)]
    exact congrArg₂ (glu _) (Fin.ext (by omega)) (Fin.ext (by show (x 1 : ℕ) = (y 1 : ℕ) % 512; omega))
  · refine (row_kept _ x).trans ?_
    have x1_lt : (x 1 : ℕ) < 14848 := (x 1).isLt
    unfold nextRows rows
    rw [dif_pos (by show (y 1 : ℕ) / 512 + 1 < 30; omega)]
    exact congrArg₂ (fun b k => iblk2 V c 3 t (ix2 b k)) (Fin.ext (by omega)) (Fin.ext (by show 512 + (x 1 : ℕ) = ((y 1 : ℕ) / 512 + 1) * 512 + (y 1 : ℕ) % 512; omega))

theorem idx2 : ∀ t : Fin cfg2.N, win2_0.index t = ![0, 0] ∧ win2_1.index t = ![0, 0] ∧ win2_2.index t = ![0, 0] ∧ win2_3.index t = ![0, 0]
    ∧ win2_4.index t = ![0, 0] ∧ win2_5.index t = ![0, 0] ∧ win2_6.index t = ![0, 0] ∧ win2_7.index t = ![0, 0] ∧ win2_8.index t = ![0, 0]
    ∧ win2_9.index t = ![0, 0] ∧ win2_10.index t = ![0, 0] ∧ win2_11.index t = ![0, 0] ∧ win2_12.index t = ![0, 0]
    ∧ win2_14.index t = ![0, 0] ∧ win2_15.index t = ![0, 0] ∧ win2_17.index t = ![0, 0] :=
  (by decide +kernel : ∀ t : Fin grid2.N, _)

theorem blk2_0 (c : Dev nD) (t : Fin cfg2.N) (b : Fin 128) (n : Fin 1024) :
    iblk2 V c 0 t (ix2 b n) = V c main_v14 (ix2 b n) := by
  blk_ext [iblk2, idx2 t]
theorem blk2_1 (c : Dev nD) (t : Fin cfg2.N) (b : Fin 128) (n : Fin 7168) :
    iblk2 V c 1 t (ix2 b n) = V c main_v15 (ix2 b n) := by
  blk_ext [iblk2, idx2 t]
theorem blk2_2 (c : Dev nD) (t : Fin cfg2.N) (b : Fin 128) (n : Fin 1024) :
    iblk2 V c 2 t (ix2 b n) = V c main_v17_1 (ix2 b n) := by
  blk_ext [iblk2, idx2 t]
theorem blk2_3 (c : Dev nD) (t : Fin cfg2.N) (b : Fin 128) (n : Fin 15360) :
    iblk2 V c 3 t (ix2 b n) = V c main_v19 (ix2 b n) := by
  blk_ext [iblk2, idx2 t]
theorem blk2_4 (c : Dev nD) (t : Fin cfg2.N) (n : Fin 2048) :
    iblk2 V c 4 t (ix2 0 n) = V c main_arg7 (ix2 0 n) := by
  blk_ext [iblk2, idx2 t]
theorem blk2_5 (c : Dev nD) (t : Fin cfg2.N) (b : Fin 31) (n : Fin 512) :
    iblk2 V c 5 t (ix2 b n) = V c main_v7 (ix2 b n) := by
  blk_ext [iblk2, idx2 t]
theorem blk2_6 (c : Dev nD) (t : Fin cfg2.N) (n : Fin 512) :
    iblk2 V c 6 t (ix2 0 n) = V c main_arg9 (ix2 0 n) := by
  blk_ext [iblk2, idx2 t]
theorem blk2_7 (c : Dev nD) (t : Fin cfg2.N) (n : Fin 512) :
    iblk2 V c 7 t (ix2 0 n) = V c main_arg10 (ix2 0 n) := by
  blk_ext [iblk2, idx2 t]
theorem blk2_8 (c : Dev nD) (t : Fin cfg2.N) (n : Fin 512) :
    iblk2 V c 8 t (ix2 0 n) = V c main_arg11 (ix2 0 n) := by
  blk_ext [iblk2, idx2 t]
theorem blk2_9 (c : Dev nD) (t : Fin cfg2.N) (b : Fin 512) (n : Fin 1024) :
    iblk2 V c 9 t (ix2 b n) = V c main_v9 (ix2 b n) := by
  blk_ext [iblk2, idx2 t]
theorem blk2_10 (c : Dev nD) (t : Fin cfg2.N) (b : Fin 1024) (n : Fin 1024) :
    iblk2 V c 10 t (ix2 b n) = V c main_v11 (ix2 b n) := by
  blk_ext [iblk2, idx2 t]
theorem blk2_11 (c : Dev nD) (t : Fin cfg2.N) (b : Fin 1024) (n : Fin 1024) :
    iblk2 V c 11 t (ix2 b n) = V c main_v13 (ix2 b n) := by
  blk_ext [iblk2, idx2 t]
theorem blk2_12 (c : Dev nD) (t : Fin cfg2.N) (n : Fin 1024) :
    iblk2 V c 12 t (ix2 0 n) = V c main_arg15 (ix2 0 n) := by
  blk_ext [iblk2, idx2 t]
end

theorem emb14 (t : Fin cfg2.N) (y) : (win2_14.blk t).view.emb y = ix2 (y 0) (y 1) := by
  blk_ext [idx2 t]
theorem emb15 (t : Fin cfg2.N) (y) : (win2_15.blk t).view.emb y = ix2 (y 0) (y 1) := by
  blk_ext [idx2 t]
theorem emb17 (t : Fin cfg2.N) (y) : (win2_17.blk t).view.emb y = ix2 (y 0) (y 1) := by
  blk_ext [idx2 t]

/-! The arguments only this kernel reads. -/

def aK (c : Dev nD) (b : Fin 128) (t : Fin 30) (n : Fin 512) : EReal := m ((c : Thread nD τ).loc main_arg6) (ix4 0 b t n)
def aBg (c : Dev nD) (n : Fin 2048) : EReal := m ((c : Thread nD τ).loc main_arg7) (ix2 0 n)
def aCw (c : Dev nD) (t : Fin 31) (n : Fin 512) : EReal := m ((c : Thread nD τ).loc main_arg8) (ix3 0 t n)
def aCb (c : Dev nD) (n : Fin 512) : EReal := m ((c : Thread nD τ).loc main_arg9) (ix2 0 n)
def aLg (c : Dev nD) (n : Fin 512) : EReal := m ((c : Thread nD τ).loc main_arg10) (ix2 0 n)
def aLh (c : Dev nD) (n : Fin 512) : EReal := m ((c : Thread nD τ).loc main_arg11) (ix2 0 n)
def aWc (c : Dev nD) (k : Fin 512) (n : Fin 1024) : EReal := m ((c : Thread nD τ).loc main_arg12) (ix3 0 k n)
def aWh (c : Dev nD) (k : Fin 1024) (n : Fin 1024) : EReal := m ((c : Thread nD τ).loc main_arg13) (ix3 0 k n)
def aWo (c : Dev nD) (k : Fin 1024) (n : Fin 1024) : EReal := m ((c : Thread nD τ).loc main_arg14) (ix3 0 k n)
def aGf (c : Dev nD) (n : Fin 1024) : EReal := m ((c : Thread nD τ).loc main_arg15) (ix2 0 n)

/-! What the kernel finds in its arrays, as the arguments give it. -/

theorem to_V1 (c : Dev nD) (r : Ref sig .tc) (h2 : r ∉ hostOps2_W) (h1 : r ∉ hostOps1_W)
    (h1' : ∀ w : Fin cfg1.W, Pipeline.arrRef spec1 w = r → (cfg1.win w).isOut = false)
    (h0' : ∀ w : Fin cfg0.W, Pipeline.arrRef spec0 w = r → (cfg0.win w).isOut = false) : V5 m ρ c r = V1 m ρ c r :=
  (W5_of m ρ c r h2).trans ((W4_of m ρ c r h1').trans ((W3_of m ρ c r h1).trans (W2_of m ρ c r h0')))

theorem V5_x (c : Dev nD) (b : Fin 128) (k : Fin 1024) : V5 m ρ c main_v14 (ix2 b k) = aX m c b k := by
  rw [to_V1 m ρ c main_v14 (by decide) (by decide) (by decide) (by decide), V1_x]
theorem V5_p (c : Dev nD) (b : Fin 128) (n : Fin 7168) : V5 m ρ c main_v15 (ix2 b n) = proj (aX m c) (aG m c) (aW m c) b n := by
  have e : V5 m ρ c main_v15 = V3 m ρ c main_v15 := (W5_of m ρ c main_v15 (by decide)).trans (W4_of m ρ c main_v15 (by decide))
  rw [e, V3_p]
theorem cast_k (X : FVec Ideal S1x128x30x512 .f32) (b : Fin 128) (t : Fin 30) (n : Fin 512) :
    shapeCast S128x15360 (shapeCast S128x30x512 X shapeCasts_S1x128x30x512_S128x30x512 : FVec Ideal S128x30x512 .f32) shapeCasts_S128x30x512_S128x15360 (ix2 b ⟨t * 512 + n, by omega⟩) = X (ix4 0 b t n) := by
  pointwise
theorem V5_k (c : Dev nD) (b : Fin 128) (t : Fin 30) (n : Fin 512) : V5 m ρ c main_v19 (ix2 b ⟨t * 512 + n, by omega⟩) = aK m c b t n := by
  have e : V5 m ρ c main_v19 = (shapeCast S128x15360 (shapeCast S128x30x512 (m ((c : Thread nD τ).loc main_arg6) : FVec Ideal S1x128x30x512 .f32) shapeCasts_S1x128x30x512_S128x30x512 : FVec Ideal S128x30x512 .f32) shapeCasts_S128x30x512_S128x15360 : FVec Ideal S128x15360 .f32) := by
    show StableHlo.after hostOps2 (W4 m ρ c) (Proc.devRef .tc main_v19) = _
    after_results
    rw [W4_args m ρ c main_arg6 (by decide)]
    rfl
  rw [e]; exact cast_k _ b t n
theorem cast_S512x1024 (X : FVec Ideal S1x512x1024 .f32) (k : Fin 512) (n : Fin 1024) :
    truncf (F := Ideal) .bf16 (shapeCast S512x1024 X shapeCasts_S1x512x1024_S512x1024 : FVec Ideal S512x1024 .f32) bitsLt_bf16_f32 (ix2 k n) = X (ix3 0 k n) := by
  pointwise
theorem V5_wc (c : Dev nD) (k : Fin 512) (n : Fin 1024) : V5 m ρ c main_v9 (ix2 k n) = aWc m c k n := by
  have e : V1 m ρ c main_v9 = (truncf (F := Ideal) .bf16 (shapeCast S512x1024 (m ((c : Thread nD τ).loc main_arg12) : FVec Ideal S1x512x1024 .f32) shapeCasts_S1x512x1024_S512x1024 : FVec Ideal S512x1024 .f32) bitsLt_bf16_f32 : FVec Ideal S512x1024 .bf16) := by
    show StableHlo.after hostOps0 (W0 m ρ c) (Proc.devRef .tc main_v9) = _
    after_results
    rfl
  rw [to_V1 m ρ c main_v9 (by decide) (by decide) (by decide) (by decide), e]; exact cast_S512x1024 _ k n
theorem cast_S1024x1024 (X : FVec Ideal S1x1024x1024 .f32) (k : Fin 1024) (n : Fin 1024) :
    truncf (F := Ideal) .bf16 (shapeCast S1024x1024 X shapeCasts_S1x1024x1024_S1024x1024 : FVec Ideal S1024x1024 .f32) bitsLt_bf16_f32 (ix2 k n) = X (ix3 0 k n) := by
  pointwise
theorem V5_wh (c : Dev nD) (k : Fin 1024) (n : Fin 1024) : V5 m ρ c main_v11 (ix2 k n) = aWh m c k n := by
  have e : V1 m ρ c main_v11 = (truncf (F := Ideal) .bf16 (shapeCast S1024x1024 (m ((c : Thread nD τ).loc main_arg13) : FVec Ideal S1x1024x1024 .f32) shapeCasts_S1x1024x1024_S1024x1024 : FVec Ideal S1024x1024 .f32) bitsLt_bf16_f32 : FVec Ideal S1024x1024 .bf16) := by
    show StableHlo.after hostOps0 (W0 m ρ c) (Proc.devRef .tc main_v11) = _
    after_results
    rfl
  rw [to_V1 m ρ c main_v11 (by decide) (by decide) (by decide) (by decide), e]; exact cast_S1024x1024 _ k n
theorem V5_wo (c : Dev nD) (k : Fin 1024) (n : Fin 1024) : V5 m ρ c main_v13 (ix2 k n) = aWo m c k n := by
  have e : V1 m ρ c main_v13 = (truncf (F := Ideal) .bf16 (shapeCast S1024x1024 (m ((c : Thread nD τ).loc main_arg14) : FVec Ideal S1x1024x1024 .f32) shapeCasts_S1x1024x1024_S1024x1024 : FVec Ideal S1024x1024 .f32) bitsLt_bf16_f32 : FVec Ideal S1024x1024 .bf16) := by
    show StableHlo.after hostOps0 (W0 m ρ c) (Proc.devRef .tc main_v13) = _
    after_results
    rfl
  rw [to_V1 m ρ c main_v13 (by decide) (by decide) (by decide) (by decide), e]; exact cast_S1024x1024 _ k n
theorem cast_cw (X : FVec Ideal S1x31x512 .f32) (t : Fin 31) (n : Fin 512) : shapeCast S31x512 X shapeCasts_S1x31x512_S31x512 (ix2 t n) = X (ix3 0 t n) := by
  pointwise
theorem V5_cw (c : Dev nD) (t : Fin 31) (n : Fin 512) : V5 m ρ c main_v7 (ix2 t n) = aCw m c t n := by
  have e : V1 m ρ c main_v7 = (shapeCast S31x512 (m ((c : Thread nD τ).loc main_arg8) : FVec Ideal S1x31x512 .f32) shapeCasts_S1x31x512_S31x512 : FVec Ideal S31x512 .f32) := by
    show StableHlo.after hostOps0 (W0 m ρ c) (Proc.devRef .tc main_v7) = _
    after_results
    rfl
  rw [to_V1 m ρ c main_v7 (by decide) (by decide) (by decide) (by decide), e]; exact cast_cw _ t n

/-- The sample group's residual -/
def xOut (c : Dev nD) : Fin 128 → Fin 1024 → EReal :=
  resid (aX m c) (proj (aX m c) (aG m c) (aW m c)) (branchA (conv (aK m c) (proj (aX m c) (aG m c) (aW m c)) (aCw m c) (aCb m c)) (aLg m c) (aLh m c) (aWc m c))
    (branchB (proj (aX m c) (aG m c) (aW m c)) (norm (aX m c) (aS m c) (aG m c) (aW m c) (aP m c) (aH m c)) (aWh m c)) (aBg m c) (aWo m c)

theorem xB_eq (c : Dev nD) (t : Fin cfg2.N) (b : Fin 128) (n : Fin 1024) : xB (V5 m ρ) c t (ix2 b n) = xOut m c b n := by
  refine (x1V_apply _ _ _ _ _ _ _ _ _ _ _ _ b n).trans ?_
  have e0 : (fun b n => iblk2 (V5 m ρ) c 0 t (ix2 b n)) = aX m c := by funext b n; exact (blk2_0 _ c t b n).trans (V5_x m ρ c b n)
  have e1 : (fun b n => iblk2 (V5 m ρ) c 1 t (ix2 b n)) = proj (aX m c) (aG m c) (aW m c) := by funext b n; exact (blk2_1 _ c t b n).trans (V5_p m ρ c b n)
  have e2 : (fun b n => iblk2 (V5 m ρ) c 2 t (ix2 b n)) = norm (aX m c) (aS m c) (aG m c) (aW m c) (aP m c) (aH m c) := by funext b n; exact (blk2_2 _ c t b n).trans (V5_o m ρ c b n)
  have e3 : kept (iblk2 (V5 m ρ) c 3 t) = aK m c := by funext b k n; exact (blk2_3 _ c t b _).trans (V5_k m ρ c b k n)
  have e4 : (fun n => iblk2 (V5 m ρ) c 4 t (ix2 0 n)) = aBg m c := by funext n; exact (blk2_4 _ c t n).trans (congrFun (W5_args m ρ c main_arg7 (by decide)) _)
  have e5 : (fun k n => iblk2 (V5 m ρ) c 5 t (ix2 k n)) = aCw m c := by funext k n; exact (blk2_5 _ c t k n).trans (V5_cw m ρ c k n)
  have e6 : (fun n => iblk2 (V5 m ρ) c 6 t (ix2 0 n)) = aCb m c := by funext n; exact (blk2_6 _ c t n).trans (congrFun (W5_args m ρ c main_arg9 (by decide)) _)
  have e7 : (fun n => iblk2 (V5 m ρ) c 7 t (ix2 0 n)) = aLg m c := by funext n; exact (blk2_7 _ c t n).trans (congrFun (W5_args m ρ c main_arg10 (by decide)) _)
  have e8 : (fun n => iblk2 (V5 m ρ) c 8 t (ix2 0 n)) = aLh m c := by funext n; exact (blk2_8 _ c t n).trans (congrFun (W5_args m ρ c main_arg11 (by decide)) _)
  have e9 : (fun k n => iblk2 (V5 m ρ) c 9 t (ix2 k n)) = aWc m c := by funext k n; exact (blk2_9 _ c t k n).trans (V5_wc m ρ c k n)
  have e10 : (fun k n => iblk2 (V5 m ρ) c 10 t (ix2 k n)) = aWh m c := by funext k n; exact (blk2_10 _ c t k n).trans (V5_wh m ρ c k n)
  have e11 : (fun k n => iblk2 (V5 m ρ) c 11 t (ix2 k n)) = aWo m c := by funext k n; exact (blk2_11 _ c t k n).trans (V5_wo m ρ c k n)
  unfold xOut
  rw [e0, e1, e2, e3, e4, e5, e6, e7, e8, e9, e10, e11]

/-- and the arrays the kernel leaves. -/
def xArr (c : Dev nD) : FVec Ideal S128x1024 .f32 := fun y => xOut m c (y 0) (y 1)
def hArr (c : Dev nD) : FVec Ideal S128x1024 .f32 := fun y => rnorm (xOut m c) (aGf m c) (y 0) (y 1)
def rArr (c : Dev nD) : FVec Ideal S128x15360 .f32 := nextRows (aK m c) (proj (aX m c) (aG m c) (aW m c))

theorem final2_14 (c : Dev nD) : (dat2 (V5 m ρ) c).arrAt 14 cfg2.N = xArr m c := by
  refine (dat2 (V5 m ρ) c).arrAt_eq_of_covers 14 (xArr m c) (by decide +kernel) fun t _ y => ?_
  blk_simp
  rw [tail_14, emb14]
  have hy : y = ix2 (y 0) (y 1) := by funext a; fin_cases a <;> rfl
  rw [hy]
  exact xB_eq m ρ c t (y 0) (y 1)

theorem final2_15 (c : Dev nD) : (dat2 (V5 m ρ) c).arrAt 15 cfg2.N = hArr m c := by
  refine (dat2 (V5 m ρ) c).arrAt_eq_of_covers 15 (hArr m c) (by decide +kernel) fun t _ y => ?_
  blk_simp
  rw [emb15]
  have hy : y = ix2 (y 0) (y 1) := by funext a; fin_cases a <;> rfl
  have e0 : (fun b n => xB (V5 m ρ) c t (ix2 b n)) = xOut m c := by funext b n; exact xB_eq m ρ c t b n
  have e1 : (fun n => iblk2 (V5 m ρ) c 12 t (ix2 0 n)) = aGf m c := by funext n; exact (blk2_12 _ c t n).trans (congrFun (W5_args m ρ c main_arg15 (by decide)) _)
  rw [hy]
  refine (tail_15 (V5 m ρ) c t (y 0) (y 1)).trans ?_
  rw [e0, e1]
  rfl

theorem final2_17 (c : Dev nD) : (dat2 (V5 m ρ) c).arrAt 17 cfg2.N = rArr m c := by
  refine (dat2 (V5 m ρ) c).arrAt_eq_of_covers 17 (rArr m c) (by decide +kernel) fun t _ y => ?_
  blk_simp
  rw [tail_17, emb17]
  have e1 : (fun b n => iblk2 (V5 m ρ) c 1 t (ix2 b n)) = proj (aX m c) (aG m c) (aW m c) := by funext b n; exact (blk2_1 _ c t b n).trans (V5_p m ρ c b n)
  have e3 : kept (iblk2 (V5 m ρ) c 3 t) = aK m c := by funext b k n; exact (blk2_3 _ c t b _).trans (V5_k m ρ c b k n)
  rw [e1, e3]
  rfl

/-- The residual @main returns, -/
theorem res_x1 (c : Dev nD) (b : Fin 128) (n : Fin 1024) : W7 m ρ c main_v20_0 (ix2 b n) = xOut m c b n := by
  have e : W7 m ρ c main_v20_0 = xArr m c := (W7_of m ρ c main_v20_0 (by decide)).trans ((W6_arr m ρ c 14).trans (final2_14 m ρ c))
  rw [e]; rfl
/-- its norm, -/
theorem res_h2 (c : Dev nD) (b : Fin 128) (n : Fin 1024) : W7 m ρ c main_v20_1 (ix2 b n) = rnorm (xOut m c) (aGf m c) b n := by
  have e : W7 m ρ c main_v20_1 = hArr m c := (W7_of m ρ c main_v20_1 (by decide)).trans ((W6_arr m ρ c 15).trans (final2_15 m ρ c))
  rw [e]; rfl

theorem split_rows (X : FVec Ideal S128x15360 .f32) (b : Fin 128) (t : Fin 30) (n : Fin 512) :
    shapeCast S1x128x30x512 X shapeCasts_S128x15360_S1x128x30x512 (ix4 0 b t n) = X (ix2 b ⟨t * 512 + n, by omega⟩) := by
  pointwise

/-- and the rows kept for the next token. -/
theorem res_rows (c : Dev nD) (b : Fin 128) (t : Fin 30) (n : Fin 512) :
    W7 m ρ c main_v22 (ix4 0 b t n) = rows (aK m c) (proj (aX m c) (aG m c) (aW m c)) b ⟨t + 1, by omega⟩ n := by
  have e : W7 m ρ c main_v22 = (shapeCast S1x128x30x512 (rArr m c) shapeCasts_S128x15360_S1x128x30x512 : FVec Ideal S1x128x30x512 .f32) := by
    show StableHlo.after hostOps3 (W6 m ρ c) (Proc.devRef .tc main_v22) = _
    after_results
    rw [W6_arr m ρ c 17, final2_17]
    rfl
  rw [e]
  refine (split_rows _ b t n).trans ?_
  unfold rArr nextRows
  exact congrArg₂ (rows _ _ b) (Fin.ext (by show ((t : ℕ) * 512 + n) / 512 + 1 = t + 1; omega)) (Fin.ext (by show ((t : ℕ) * 512 + n) % 512 = n; omega))

end Cert.KernelIdeal.Step

end
-- ==== Proof.TailRef.lean ====
/- The rest of the reference: the convolution branch, the projections, the merge and the norm, part by part and at
   coordinates; then the four results from the arguments. -/
module

public import proofs.«01_k».proof.Proof.TailSpec
public import proofs.«01_k».proof.Proof.StepRef
public import proofs.«01_k».proof.Proof.Gen.ReferenceIdeal.Run
public import Idealize.ShloMosaic.Lib.Pointwise

@[expose] public section

set_option maxRecDepth 16384

noncomputable section

namespace Cert.ReferenceIdeal.Step

open Cert.ReferenceIdeal Cert.ReferenceIdeal.Gen Cert.ReferenceIdeal.Value
open Idealize.ShloMosaic Idealize.ShloMosaic.TcCoe
open Idealize.SL.Sem

/-- The kept rows with the new row behind them. -/
def rRows (st : FVec Ideal S1x128x30x512 .f32) (P : FVec Ideal S128x1x7168 .f32) : FVec Ideal S128x31x512 .f32 :=
  concatenate S128x31x512 1 [⟨S128x30x512, (shapeCast _ st shapeCasts_S1x128x30x512_S128x30x512)⟩, ⟨S128x1x512, (mulf (extractStridedSlice S128x1x512 ![0, 0, 0] P slices_S128x1x7168_S128x1x512_0_0_0) (Host.divf (broadcastInDim S128x1x512 ![] bcast_S_S128x1x512 (constant S_ .f32 0x3F800000#32)) (addf (broadcastInDim S128x1x512 ![] bcast_S_S128x1x512 (constant S_ .f32 0x3F800000#32)) (Host.exp (Host.negf (extractStridedSlice S128x1x512 ![0, 0, 512] P slices_S128x1x7168_S128x1x512_0_0_512))))))⟩] concatenates_S128x30x512_S128x1x512_S128x31x512_d1

/-- The convolution and its bias. -/
def rConv (R : FVec Ideal S128x31x512 .f32) (cw : FVec Ideal S1x31x512 .f32) (cb : FVec Ideal S1x512 .f32) : FVec Ideal S128x1x512 .f32 :=
  addf (broadcastInDim S128x1x512 ![0, 2] bcast_S128x512_S128x1x512_0_2 (Host.reduceAdd (mulf R (broadcastInDim S128x31x512 ![0, 1, 2] bcast_S1x31x512_S128x31x512_0_1_2 (broadcastInDim S1x31x512 ![1, 2] bcast_S31x512_S1x31x512_1_2 (shapeCast _ cw shapeCasts_S1x31x512_S31x512)))) (constant S_ .f32 0x00000000#32) reducesTo_S128x31x512_S128x512_d1 h_S_)) (broadcastInDim S128x1x512 ![0, 1, 2] bcast_S1x1x512_S128x1x512_0_1_2 (broadcastInDim S1x1x512 ![2] bcast_S512_S1x1x512_2 (shapeCast _ cb shapeCasts_S1x512_S512)))

/-- A row less its mean. -/
def rCen (c : FVec Ideal S128x1x512 .f32) : FVec Ideal S128x1x512 .f32 :=
  subf c (broadcastInDim S128x1x512 ![0, 1, 2] bcast_S128x1x1_S128x1x512_0_1_2 (Host.divf (broadcastInDim S128x1x1 ![0, 1] bcast_S128x1_S128x1x1_0_1 (Host.reduceAdd c (constant S_ .f32 0x00000000#32) reducesTo_S128x1x512_S128x1_d2 h_S_)) (broadcastInDim S128x1x1 ![] bcast_S_S128x1x1 (constant S_ .f32 0x44000000#32))))

/-- The layer norm, from the centred rows. -/
def rLn (d : FVec Ideal S128x1x512 .f32) (g h : FVec Ideal S1x512 .f32) : FVec Ideal S128x1x512 .f32 :=
  addf (mulf (mulf d (broadcastInDim S128x1x512 ![0, 1, 2] bcast_S128x1x1_S128x1x512_0_1_2 (Host.rsqrt (addf (Host.divf (broadcastInDim S128x1x1 ![0, 1] bcast_S128x1_S128x1x1_0_1 (Host.reduceAdd (mulf d d) (constant S_ .f32 0x00000000#32) reducesTo_S128x1x512_S128x1_d2 h_S_)) (broadcastInDim S128x1x1 ![] bcast_S_S128x1x1 (constant S_ .f32 0x44000000#32))) (broadcastInDim S128x1x1 ![] bcast_S_S128x1x1 (constant S_ .f32 0x358637BD#32)))))) (broadcastInDim S128x1x512 ![0, 1, 2] bcast_S1x1x512_S128x1x512_0_1_2 (broadcastInDim S1x1x512 ![2] bcast_S512_S1x1x512_2 (shapeCast _ g shapeCasts_S1x512_S512)))) (broadcastInDim S128x1x512 ![0, 1, 2] bcast_S1x1x512_S128x1x512_0_1_2 (broadcastInDim S1x1x512 ![2] bcast_S512_S1x1x512_2 (shapeCast _ h shapeCasts_S1x512_S512)))

/-- The convolution branch, from the layer norm. -/
def rA (l : FVec Ideal S128x1x512 .f32) (wc : FVec Ideal S1x512x1024 .f32) : FVec Ideal S128x1x1024 .f32 :=
  Host.dotGeneral dot_S128x1x512_S512x1024_S128x1x1024_2_0_01_1_n_n none (mulf l (Host.divf (broadcastInDim S128x1x512 ![] bcast_S_S128x1x512 (constant S_ .f32 0x3F800000#32)) (addf (broadcastInDim S128x1x512 ![] bcast_S_S128x1x512 (constant S_ .f32 0x3F800000#32)) (Host.exp (Host.negf l))))) (shapeCast _ wc shapeCasts_S1x512x1024_S512x1024)

/-- The recurrence branch, from its normalised output. -/
def rB (O : FVec Ideal S128x1x1024 .f32) (P : FVec Ideal S128x1x7168 .f32) (wh : FVec Ideal S1x1024x1024 .f32) : FVec Ideal S128x1x1024 .f32 :=
  Host.dotGeneral dot_S128x1x1024_S1024x1024_S128x1x1024_2_0_01_1_n_n none (mulf O (mulf (extractStridedSlice S128x1x1024 ![0, 0, 4096] P slices_S128x1x7168_S128x1x1024_0_0_4096) (Host.divf (broadcastInDim S128x1x1024 ![] bcast_S_S128x1x1024 (constant S_ .f32 0x3F800000#32)) (addf (broadcastInDim S128x1x1024 ![] bcast_S_S128x1x1024 (constant S_ .f32 0x3F800000#32)) (Host.exp (Host.negf (extractStridedSlice S128x1x1024 ![0, 0, 4096] P slices_S128x1x7168_S128x1x1024_0_0_4096))))))) (shapeCast _ wh shapeCasts_S1x1024x1024_S1024x1024)

/-- The merge, its projection and the residual. -/
def rX1 (x : FVec Ideal S128x1x1024 .f32) (P : FVec Ideal S128x1x7168 .f32) (A B : FVec Ideal S128x1x1024 .f32) (bg : FVec Ideal S1x2048 .f32) (wo : FVec Ideal S1x1024x1024 .f32) : FVec Ideal S128x1x1024 .f32 :=
  addf x (Host.dotGeneral dot_S128x1x1024_S1024x1024_S128x1x1024_2_0_01_1_n_n none (addf (mulf (Host.divf (broadcastInDim S128x1x1024 ![] bcast_S_S128x1x1024 (constant S_ .f32 0x3F800000#32)) (addf (broadcastInDim S128x1x1024 ![] bcast_S_S128x1x1024 (constant S_ .f32 0x3F800000#32)) (Host.exp (Host.negf (addf (extractStridedSlice S128x1x1024 ![0, 0, 5120] P slices_S128x1x7168_S128x1x1024_0_0_5120) (broadcastInDim S128x1x1024 ![0, 1, 2] bcast_S1x1x1024_S128x1x1024_0_1_2 (broadcastInDim S1x1x1024 ![2] bcast_S1024_S1x1x1024_2 (shapeCast _ (extractStridedSlice S1x1024 ![0, 0] bg slices_S1x2048_S1x1024_0_0) shapeCasts_S1x1024_S1024)))))))) A) (mulf (Host.divf (broadcastInDim S128x1x1024 ![] bcast_S_S128x1x1024 (constant S_ .f32 0x3F800000#32)) (addf (broadcastInDim S128x1x1024 ![] bcast_S_S128x1x1024 (constant S_ .f32 0x3F800000#32)) (Host.exp (Host.negf (addf (extractStridedSlice S128x1x1024 ![0, 0, 6144] P slices_S128x1x7168_S128x1x1024_0_0_6144) (broadcastInDim S128x1x1024 ![0, 1, 2] bcast_S1x1x1024_S128x1x1024_0_1_2 (broadcastInDim S1x1x1024 ![2] bcast_S1024_S1x1x1024_2 (shapeCast _ (extractStridedSlice S1x1024 ![0, 1024] bg slices_S1x2048_S1x1024_0_1024) shapeCasts_S1x1024_S1024)))))))) B)) (shapeCast _ wo shapeCasts_S1x1024x1024_S1024x1024))

/-- The norm of the residual. -/
def rH2 (y : FVec Ideal S128x1x1024 .f32) (g : FVec Ideal S1x1024 .f32) : FVec Ideal S128x1x1024 .f32 :=
  mulf (mulf y (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf y y) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 (shapeCast _ g shapeCasts_S1x1024_S1024)))

theorem neg_as_sub (z : EReal) : -z = 0 - z := (zero_sub z).symm

theorem rRows_apply (st : FVec Ideal S1x128x30x512 .f32) (P : FVec Ideal S128x1x7168 .f32) (b : Fin 128) (t : Fin 31) (n : Fin 512) :
    rRows st P (ix3 b t n) = StepSpec.rows (fun b t n => st (ix4 0 b t n)) (fun b n => P (ix3 b 0 n)) b t n := by
  have e : ∀ h, (⟨(t : ℕ) - 30, h⟩ : Fin 1) = 0 := fun _ => Subsingleton.elim _ _
  pointwise [rRows, StepSpec.rows, StepSpec.glu, StepSpec.sig, neg_as_sub]
  simp only [e]

theorem rConv_apply (R : FVec Ideal S128x31x512 .f32) (cw : FVec Ideal S1x31x512 .f32) (cb : FVec Ideal S1x512 .f32) (b : Fin 128) (n : Fin 512) :
    rConv R cw cb (ix3 b 0 n) = (∑ t : Fin 31, R (ix3 b t n) * cw (ix3 0 t n)) + cb (ix2 0 n) := by
  pointwise [rConv]

theorem rCen_apply (c : FVec Ideal S128x1x512 .f32) (b : Fin 128) (n : Fin 512) :
    rCen c (ix3 b 0 n) = StepSpec.centred (fun b n => c (ix3 b 0 n)) b n := by
  pointwise [rCen, StepSpec.centred]

theorem rLn_apply (c : FVec Ideal S128x1x512 .f32) (g h : FVec Ideal S1x512 .f32) (b : Fin 128) (n : Fin 512) :
    rLn (rCen c) g h (ix3 b 0 n) = StepSpec.lnorm (fun b n => c (ix3 b 0 n)) (fun n => g (ix2 0 n)) (fun n => h (ix2 0 n)) b n := by
  pointwise [rLn, StepSpec.lnorm, rCen_apply]

theorem rA_apply (l : FVec Ideal S128x1x512 .f32) (wc : FVec Ideal S1x512x1024 .f32) (b : Fin 128) (n : Fin 1024) :
    rA l wc (ix3 b 0 n) = ∑ k : Fin 512, StepSpec.silu (l (ix3 b 0 k)) * wc (ix3 0 k n) := by
  pointwise [rA, StepSpec.silu, StepSpec.sig, neg_as_sub]

theorem rB_apply (O : FVec Ideal S128x1x1024 .f32) (P : FVec Ideal S128x1x7168 .f32) (wh : FVec Ideal S1x1024x1024 .f32) (b : Fin 128) (n : Fin 1024) :
    rB O P wh (ix3 b 0 n) = StepSpec.branchB (fun b n => P (ix3 b 0 n)) (fun b n => O (ix3 b 0 n)) (fun k n => wh (ix3 0 k n)) b n := by
  pointwise [rB, StepSpec.branchB, StepSpec.silu, StepSpec.sig, neg_as_sub]

theorem rX1_apply (x : FVec Ideal S128x1x1024 .f32) (P : FVec Ideal S128x1x7168 .f32) (A B : FVec Ideal S128x1x1024 .f32) (bg : FVec Ideal S1x2048 .f32) (wo : FVec Ideal S1x1024x1024 .f32) (b : Fin 128) (n : Fin 1024) :
    rX1 x P A B bg wo (ix3 b 0 n) = StepSpec.resid (fun b n => x (ix3 b 0 n)) (fun b n => P (ix3 b 0 n)) (fun b n => A (ix3 b 0 n)) (fun b n => B (ix3 b 0 n))
      (fun n => bg (ix2 0 n)) (fun k n => wo (ix3 0 k n)) b n := by
  pointwise [rX1, StepSpec.resid, StepSpec.sig, neg_as_sub]

theorem rH2_apply (y : FVec Ideal S128x1x1024 .f32) (g : FVec Ideal S1x1024 .f32) (b : Fin 128) (n : Fin 1024) :
    rH2 y g (ix3 b 0 n) = StepSpec.rnorm (fun b n => y (ix3 b 0 n)) (fun n => g (ix2 0 n)) b n := by
  pointwise [rH2, StepSpec.rnorm]

/-! The generated composition is the named parts, one by one. -/

section
variable (V : Valuation τ sig (Elt Ideal))

/-- The input projection. -/
def vP : FVec Ideal S128x1x7168 .f32 := rProj (V (Proc.devRef .tc main_arg0)) (V (Proc.devRef .tc main_arg2)) (V (Proc.devRef .tc main_arg3))

theorem eq_v29 : res_main_v29 V = vP V := rfl
theorem eq_v46 : res_main_v46 V = rRows (V (Proc.devRef .tc main_arg6)) (vP V) := rfl
theorem eq_v56 : res_main_v56 V = rConv (res_main_v46 V) (V (Proc.devRef .tc main_arg8)) (V (Proc.devRef .tc main_arg9)) := rfl
theorem eq_v62 : res_main_v62 V = rCen (res_main_v56 V) := rfl
theorem eq_v82 : res_main_v82 V = rLn (rCen (res_main_v56 V)) (V (Proc.devRef .tc main_arg10)) (V (Proc.devRef .tc main_arg11)) := rfl
theorem eq_v117 : res_main_v117 V = rState (V (Proc.devRef .tc main_arg0)) (V (Proc.devRef .tc main_arg1)) (V (Proc.devRef .tc main_arg2))
    (V (Proc.devRef .tc main_arg3)) (V (Proc.devRef .tc main_arg4)) := rfl
theorem eq_v119 : res_main_v119 V = rOut (V (Proc.devRef .tc main_arg0)) (V (Proc.devRef .tc main_arg1)) (V (Proc.devRef .tc main_arg2))
    (V (Proc.devRef .tc main_arg3)) (V (Proc.devRef .tc main_arg4)) := rfl
theorem eq_v167 : res_main_v167 V = rX1 (V (Proc.devRef .tc main_arg0)) (vP V) (rA (res_main_v82 V) (V (Proc.devRef .tc main_arg12)))
    (rB (rRes1 (V (Proc.devRef .tc main_arg0)) (V (Proc.devRef .tc main_arg1)) (V (Proc.devRef .tc main_arg2)) (V (Proc.devRef .tc main_arg3))
      (V (Proc.devRef .tc main_arg4)) (V (Proc.devRef .tc main_arg5))) (vP V) (V (Proc.devRef .tc main_arg13)))
    (V (Proc.devRef .tc main_arg7)) (V (Proc.devRef .tc main_arg14)) := rfl

/-- The projection at coordinates -/
def sP : Fin 128 → Fin 7168 → EReal := StepSpec.proj (fun b k => V (Proc.devRef .tc main_arg0) (ix3 b 0 k)) (fun k => V (Proc.devRef .tc main_arg2) (ix2 0 k))
  (fun k n => V (Proc.devRef .tc main_arg3) (ix3 0 k n))

/-- the recurrence's normalised output, -/
def sO : Fin 128 → Fin 1024 → EReal := StepSpec.norm (fun b k => V (Proc.devRef .tc main_arg0) (ix3 b 0 k)) (fun b h i j => V (Proc.devRef .tc main_arg1) (ix5 0 b h i j))
  (fun k => V (Proc.devRef .tc main_arg2) (ix2 0 k)) (fun k n => V (Proc.devRef .tc main_arg3) (ix3 0 k n)) (fun l n => V (Proc.devRef .tc main_arg4) (ix2 l n))
  (fun n => V (Proc.devRef .tc main_arg5) (ix2 0 n))

/-- and the residual. -/
def sX : Fin 128 → Fin 1024 → EReal :=
  StepSpec.resid (fun b k => V (Proc.devRef .tc main_arg0) (ix3 b 0 k)) (sP V)
    (StepSpec.branchA (StepSpec.conv (fun b t n => V (Proc.devRef .tc main_arg6) (ix4 0 b t n)) (sP V) (fun t n => V (Proc.devRef .tc main_arg8) (ix3 0 t n))
      (fun n => V (Proc.devRef .tc main_arg9) (ix2 0 n))) (fun n => V (Proc.devRef .tc main_arg10) (ix2 0 n)) (fun n => V (Proc.devRef .tc main_arg11) (ix2 0 n))
      (fun k n => V (Proc.devRef .tc main_arg12) (ix3 0 k n)))
    (StepSpec.branchB (sP V) (sO V) (fun k n => V (Proc.devRef .tc main_arg13) (ix3 0 k n)))
    (fun n => V (Proc.devRef .tc main_arg7) (ix2 0 n)) (fun k n => V (Proc.devRef .tc main_arg14) (ix3 0 k n))

theorem vP_apply : (fun b n => vP V (ix3 b 0 n)) = sP V := by
  funext b n; exact rProj_apply _ _ _ b n

theorem v46_apply (b : Fin 128) (t : Fin 31) (n : Fin 512) :
    res_main_v46 V (ix3 b t n) = StepSpec.rows (fun b t n => V (Proc.devRef .tc main_arg6) (ix4 0 b t n)) (sP V) b t n := by
  rw [eq_v46, rRows_apply, vP_apply]

theorem v56_apply : (fun b n => res_main_v56 V (ix3 b 0 n)) = StepSpec.conv (fun b t n => V (Proc.devRef .tc main_arg6) (ix4 0 b t n)) (sP V)
    (fun t n => V (Proc.devRef .tc main_arg8) (ix3 0 t n)) (fun n => V (Proc.devRef .tc main_arg9) (ix2 0 n)) := by
  funext b n
  rw [eq_v56, rConv_apply]
  simp only [v46_apply]
  rfl

theorem v167_apply : (fun b n => res_main_v167 V (ix3 b 0 n)) = sX V := by
  funext b n
  rw [eq_v167, rX1_apply, vP_apply]
  unfold sX
  have eA : (fun b n => rA (res_main_v82 V) (V (Proc.devRef .tc main_arg12)) (ix3 b 0 n)) = StepSpec.branchA (StepSpec.conv (fun b t n => V (Proc.devRef .tc main_arg6) (ix4 0 b t n)) (sP V) (fun t n => V (Proc.devRef .tc main_arg8) (ix3 0 t n))
      (fun n => V (Proc.devRef .tc main_arg9) (ix2 0 n))) (fun n => V (Proc.devRef .tc main_arg10) (ix2 0 n)) (fun n => V (Proc.devRef .tc main_arg11) (ix2 0 n))
      (fun k n => V (Proc.devRef .tc main_arg12) (ix3 0 k n)) := by
    funext b n
    rw [rA_apply, eq_v82]
    simp only [rLn_apply, v56_apply]
    rfl
  have eB : (fun b n => rB (rRes1 (V (Proc.devRef .tc main_arg0)) (V (Proc.devRef .tc main_arg1)) (V (Proc.devRef .tc main_arg2)) (V (Proc.devRef .tc main_arg3))
      (V (Proc.devRef .tc main_arg4)) (V (Proc.devRef .tc main_arg5))) (vP V) (V (Proc.devRef .tc main_arg13)) (ix3 b 0 n))
      = StepSpec.branchB (sP V) (sO V) (fun k n => V (Proc.devRef .tc main_arg13) (ix3 0 k n)) := by
    funext b n
    rw [rB_apply, vP_apply]
    have e : (fun b n => rRes1 (V (Proc.devRef .tc main_arg0)) (V (Proc.devRef .tc main_arg1)) (V (Proc.devRef .tc main_arg2)) (V (Proc.devRef .tc main_arg3))
      (V (Proc.devRef .tc main_arg4)) (V (Proc.devRef .tc main_arg5)) (ix3 b 0 n)) = sO V := by funext b n; exact rRes1_apply _ _ _ _ _ _ b n
    rw [e]
  rw [eA, eB]

/-! The results the reference returns, from its arguments. -/

theorem cast_x (Y : FVec Ideal S128x1x1024 .f32) (b : Fin 128) (n : Fin 1024) : shapeCast S128x1024 Y shapeCasts_S128x1x1024_S128x1024 (ix2 b n) = Y (ix3 b 0 n) := by
  pointwise

theorem last_rows (R : FVec Ideal S128x31x512 .f32) (b : Fin 128) (t : Fin 30) (n : Fin 512) :
    broadcastInDim S1x128x30x512 ![1, 2, 3] bcast_S128x30x512_S1x128x30x512_1_2_3 (extractStridedSlice S128x30x512 ![0, 1, 0] R slices_S128x31x512_S128x30x512_0_1_0) (ix4 0 b t n)
      = R (ix3 b ⟨t + 1, by omega⟩ n) := by
  pointwise
  simp only [Nat.add_comm 1]

theorem ref_x1 (b : Fin 128) (n : Fin 1024) : shapeCast S128x1024 (res_main_v167 V) shapeCasts_S128x1x1024_S128x1024 (ix2 b n) = sX V b n := by
  rw [cast_x]; exact congrFun (congrFun (v167_apply V) b) n

theorem ref_h2 (b : Fin 128) (n : Fin 1024) : shapeCast S128x1024 (rH2 (res_main_v167 V) (V (Proc.devRef .tc main_arg15))) shapeCasts_S128x1x1024_S128x1024 (ix2 b n)
    = StepSpec.rnorm (sX V) (fun n => V (Proc.devRef .tc main_arg15) (ix2 0 n)) b n := by
  rw [cast_x, rH2_apply, v167_apply]

theorem ref_rows (b : Fin 128) (t : Fin 30) (n : Fin 512) :
    broadcastInDim S1x128x30x512 ![1, 2, 3] bcast_S128x30x512_S1x128x30x512_1_2_3 (extractStridedSlice S128x30x512 ![0, 1, 0] (res_main_v46 V) slices_S128x31x512_S128x30x512_0_1_0) (ix4 0 b t n)
      = StepSpec.rows (fun b t n => V (Proc.devRef .tc main_arg6) (ix4 0 b t n)) (sP V) b ⟨t + 1, by omega⟩ n := by
  rw [last_rows, v46_apply]
end

end Cert.ReferenceIdeal.Step

end
-- ==== Proof.lean ====
/- The certificate: each program terminates with its arguments unchanged, and over the extended reals the kernels'
   results are the references'. -/
module

public import proofs.«01_k».proof.Proof.ExpertFrame
public import proofs.«01_k».proof.Proof.ExpertTables
public import proofs.«01_k».proof.Proof.ExpertValue
public import proofs.«01_k».proof.Proof.ExpertRef
public import proofs.«01_k».proof.Proof.ExpertSame
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Pre_experts_named
public import proofs.«01_k».proof.Defs
public import proofs.«01_k».proof.Proof.StepRun
public import proofs.«01_k».proof.Proof.StepValue
public import proofs.«01_k».proof.Proof.StepRef
public import proofs.«01_k».proof.Proof.TailSpec
public import proofs.«01_k».proof.Proof.TailTile
public import proofs.«01_k».proof.Proof.TailValue
public import proofs.«01_k».proof.Proof.TailRef
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Lib.Claim
public import Idealize.ShloMosaic.Init

@[expose] public section

noncomputable section

namespace Cert.Proof

open Idealize.ShloMosaic Idealize.SL.Sem Cert.Kernel

/-- The decoding step: all four results equal the reference's, element by element. -/
theorem step_algebraic : Cert.algebraic_KernelIdeal_ReferenceIdeal := by
  intro m g m' g' _ hagree
  refine ⟨fun c => Cert.KernelIdeal.Gen.W7 m g c (Proc.devRef .tc Cert.KernelIdeal.main_v21), fun c => Cert.KernelIdeal.Gen.W7 m g c (Proc.devRef .tc Cert.KernelIdeal.main_v22),
    fun c => Cert.KernelIdeal.Gen.W7 m g c (Proc.devRef .tc Cert.KernelIdeal.main_v20_0), fun c => Cert.KernelIdeal.Gen.W7 m g c (Proc.devRef .tc Cert.KernelIdeal.main_v20_1),
    Cert.KernelIdeal.Gen.run_step m g, ?_⟩
  refine (θ_run _ _ _).mono (fun r h c => ?_) (Cert.ReferenceIdeal.Value.run m' g')
  obtain ⟨h0, h1, h2, h3, ha⟩ := h c
  obtain ⟨e0, e1, e2, e3, e4, e5, e6, e7, e8, e9, e10, e11, e12, e13, e14, e15, e16, e17⟩ := hagree c
  have hP : Cert.ReferenceIdeal.Step.sP (StableHlo.launchContents m' c) = Cert.StepSpec.proj (Cert.KernelIdeal.Step.aX m c) (Cert.KernelIdeal.Step.aG m c) (Cert.KernelIdeal.Step.aW m c) := by
    show Cert.StepSpec.proj (fun b k => m' ((c.tc : Thread Cert.ReferenceIdeal.nD Cert.ReferenceIdeal.τ).loc Cert.ReferenceIdeal.main_arg0) (ix3 b 0 k))
      (fun k => m' ((c.tc : Thread Cert.ReferenceIdeal.nD Cert.ReferenceIdeal.τ).loc Cert.ReferenceIdeal.main_arg2) (ix2 0 k))
      (fun k n => m' ((c.tc : Thread Cert.ReferenceIdeal.nD Cert.ReferenceIdeal.τ).loc Cert.ReferenceIdeal.main_arg3) (ix3 0 k n)) = _
    rw [e0, e2, e3]
    rfl
  have hO : Cert.ReferenceIdeal.Step.sO (StableHlo.launchContents m' c) = Cert.StepSpec.norm (Cert.KernelIdeal.Step.aX m c) (Cert.KernelIdeal.Step.aS m c) (Cert.KernelIdeal.Step.aG m c)
      (Cert.KernelIdeal.Step.aW m c) (Cert.KernelIdeal.Step.aP m c) (Cert.KernelIdeal.Step.aH m c) := by
    show Cert.StepSpec.norm (fun b k => m' ((c.tc : Thread Cert.ReferenceIdeal.nD Cert.ReferenceIdeal.τ).loc Cert.ReferenceIdeal.main_arg0) (ix3 b 0 k))
      (fun b h i j => m' ((c.tc : Thread Cert.ReferenceIdeal.nD Cert.ReferenceIdeal.τ).loc Cert.ReferenceIdeal.main_arg1) (ix5 0 b h i j))
      (fun k => m' ((c.tc : Thread Cert.ReferenceIdeal.nD Cert.ReferenceIdeal.τ).loc Cert.ReferenceIdeal.main_arg2) (ix2 0 k))
      (fun k n => m' ((c.tc : Thread Cert.ReferenceIdeal.nD Cert.ReferenceIdeal.τ).loc Cert.ReferenceIdeal.main_arg3) (ix3 0 k n))
      (fun l n => m' ((c.tc : Thread Cert.ReferenceIdeal.nD Cert.ReferenceIdeal.τ).loc Cert.ReferenceIdeal.main_arg4) (ix2 l n))
      (fun n => m' ((c.tc : Thread Cert.ReferenceIdeal.nD Cert.ReferenceIdeal.τ).loc Cert.ReferenceIdeal.main_arg5) (ix2 0 n)) = _
    rw [e0, e1, e2, e3, e4, e5]
    rfl
  have hX : Cert.ReferenceIdeal.Step.sX (StableHlo.launchContents m' c) = Cert.KernelIdeal.Step.xOut m c := by
    unfold Cert.ReferenceIdeal.Step.sX
    rw [hP, hO]
    show Cert.StepSpec.resid (fun b k => m' ((c.tc : Thread Cert.ReferenceIdeal.nD Cert.ReferenceIdeal.τ).loc Cert.ReferenceIdeal.main_arg0) (ix3 b 0 k)) _
      (Cert.StepSpec.branchA (Cert.StepSpec.conv (fun b t n => m' ((c.tc : Thread Cert.ReferenceIdeal.nD Cert.ReferenceIdeal.τ).loc Cert.ReferenceIdeal.main_arg6) (ix4 0 b t n)) _
        (fun t n => m' ((c.tc : Thread Cert.ReferenceIdeal.nD Cert.ReferenceIdeal.τ).loc Cert.ReferenceIdeal.main_arg8) (ix3 0 t n))
        (fun n => m' ((c.tc : Thread Cert.ReferenceIdeal.nD Cert.ReferenceIdeal.τ).loc Cert.ReferenceIdeal.main_arg9) (ix2 0 n)))
        (fun n => m' ((c.tc : Thread Cert.ReferenceIdeal.nD Cert.ReferenceIdeal.τ).loc Cert.ReferenceIdeal.main_arg10) (ix2 0 n))
        (fun n => m' ((c.tc : Thread Cert.ReferenceIdeal.nD Cert.ReferenceIdeal.τ).loc Cert.ReferenceIdeal.main_arg11) (ix2 0 n))
        (fun k n => m' ((c.tc : Thread Cert.ReferenceIdeal.nD Cert.ReferenceIdeal.τ).loc Cert.ReferenceIdeal.main_arg12) (ix3 0 k n)))
      (Cert.StepSpec.branchB _ _ (fun k n => m' ((c.tc : Thread Cert.ReferenceIdeal.nD Cert.ReferenceIdeal.τ).loc Cert.ReferenceIdeal.main_arg13) (ix3 0 k n)))
      (fun n => m' ((c.tc : Thread Cert.ReferenceIdeal.nD Cert.ReferenceIdeal.τ).loc Cert.ReferenceIdeal.main_arg7) (ix2 0 n))
      (fun k n => m' ((c.tc : Thread Cert.ReferenceIdeal.nD Cert.ReferenceIdeal.τ).loc Cert.ReferenceIdeal.main_arg14) (ix3 0 k n)) = _
    rw [e0, e6, e7, e8, e9, e10, e11, e12, e13, e14]
    rfl
  refine ⟨h0.trans ?_, h1.trans ?_, h2.trans ?_, h3.trans ?_, ha⟩
  · funext y
    have hy : y = ix5 0 (y 1) (y 2) (y 3) (y 4) := by
      funext a; fin_cases a
      · exact Subsingleton.elim (α := Fin 1) _ _
      all_goals rfl
    rw [hy]
    refine Eq.trans ?_ (Cert.KernelIdeal.Step.res_state m g c _ _ _ _).symm
    rw [Cert.ReferenceIdeal.Step.eq_v117]
    refine (Cert.ReferenceIdeal.Step.rRes0_apply _ _ _ _ _ _ _ _ _).trans ?_
    show Cert.StepSpec.state (fun b k => m' ((c.tc : Thread Cert.ReferenceIdeal.nD Cert.ReferenceIdeal.τ).loc Cert.ReferenceIdeal.main_arg0) (ix3 b 0 k))
      (fun b h i j => m' ((c.tc : Thread Cert.ReferenceIdeal.nD Cert.ReferenceIdeal.τ).loc Cert.ReferenceIdeal.main_arg1) (ix5 0 b h i j))
      (fun k => m' ((c.tc : Thread Cert.ReferenceIdeal.nD Cert.ReferenceIdeal.τ).loc Cert.ReferenceIdeal.main_arg2) (ix2 0 k))
      (fun k n => m' ((c.tc : Thread Cert.ReferenceIdeal.nD Cert.ReferenceIdeal.τ).loc Cert.ReferenceIdeal.main_arg3) (ix3 0 k n))
      (fun l n => m' ((c.tc : Thread Cert.ReferenceIdeal.nD Cert.ReferenceIdeal.τ).loc Cert.ReferenceIdeal.main_arg4) (ix2 l n)) _ _ _ _ = _
    rw [e0, e1, e2, e3, e4]
    rfl
  · funext y
    have hy : y = ix4 0 (y 1) (y 2) (y 3) := by
      funext a; fin_cases a
      · exact Subsingleton.elim (α := Fin 1) _ _
      all_goals rfl
    rw [hy]
    refine Eq.trans ?_ (Cert.KernelIdeal.Step.res_rows m g c _ _ _).symm
    refine (Cert.ReferenceIdeal.Step.ref_rows _ _ _ _).trans ?_
    rw [hP]
    show Cert.StepSpec.rows (fun b t n => m' ((c.tc : Thread Cert.ReferenceIdeal.nD Cert.ReferenceIdeal.τ).loc Cert.ReferenceIdeal.main_arg6) (ix4 0 b t n)) _ _ _ _ = _
    rw [e6]
    rfl
  · funext y
    have hy : y = ix2 (y 0) (y 1) := by funext a; fin_cases a <;> rfl
    rw [hy]
    refine Eq.trans ?_ (Cert.KernelIdeal.Step.res_x1 m g c _ _).symm
    refine (Cert.ReferenceIdeal.Step.ref_x1 _ _ _).trans ?_
    rw [hX]
  · funext y
    have hy : y = ix2 (y 0) (y 1) := by funext a; fin_cases a <;> rfl
    rw [hy]
    refine Eq.trans ?_ (Cert.KernelIdeal.Step.res_h2 m g c _ _).symm
    refine (Cert.ReferenceIdeal.Step.ref_h2 _ _ _).trans ?_
    rw [hX]
    show Cert.StepSpec.rnorm _ (fun n => m' ((c.tc : Thread Cert.ReferenceIdeal.nD Cert.ReferenceIdeal.τ).loc Cert.ReferenceIdeal.main_arg15) (ix2 0 n)) _ _ = _
    rw [e15]
    rfl

/-- The reference ends with its arguments unchanged. -/
theorem step_quiescent : Cert.quiescent_ReferenceIdeal := by
  intro m g _
  exact (θ_run _ _ _).mono (fun r h => ⟨fun c => (h c).2.2.2.2, sem_eq_zero_of_no_sems (by decide) r.2⟩) (Cert.ReferenceIdeal.Value.run m g)

section Experts

attribute [local instance] Cert.Kernel2.Gen.facts Cert.Kernel2Ideal.Gen.facts Cert.Reference2Ideal.Gen.facts Cert.Pre_experts_named.Gen.facts

/-- The experts' kernel at machine floats ends with its arguments unchanged. -/
theorem experts_quiescent_bits : Cert.quiescent_Kernel2 := by
  intro m g hpre
  exact Cert.Experts.same_run m g _ (Cert.Experts.run_args (F := Bits) m g fun x => Cert.Experts.named _ _ _ _ _ _ (hpre 0) x)

/-- The experts' kernel over the extended reals ends with its arguments unchanged. -/
theorem experts_quiescent : Cert.quiescent_Kernel2Ideal := by
  intro m g hpre
  exact Cert.Experts.run_args (F := Ideal) m g fun x => Cert.Experts.named _ _ _ _ _ _ (hpre 0) x

/-- The experts' reference ends with its arguments unchanged. -/
theorem experts_ref_quiescent : Cert.quiescent_Reference2Ideal := by
  intro m g _
  exact (θ_run _ _ _).mono (fun r h => ⟨fun c => (h c).2, sem_eq_zero_of_no_sems (by decide) r.2⟩) (Cert.Reference2Ideal.Experts.ref_run m g)

theorem experts_ref_quiescent_named : Cert.quiescent_Reference2Ideal_pre_experts_named := by
  intro m g _
  exact (θ_run _ _ _).mono (fun r h => ⟨fun c => (h c).2, sem_eq_zero_of_no_sems (by decide) r.2⟩) (Cert.Reference2Ideal.Experts.ref_run m g)

/-- The experts: the kernel's rows equal the reference's, element by element. -/
theorem experts_algebraic : Cert.algebraic_Kernel2Ideal_Reference2Ideal := by
  intro m g m' g' hpre hagree
  have hn : ∀ x, (Cert.Experts.names (F := Ideal) m x).toNat < 32 := fun x => Cert.Experts.named _ _ _ _ _ _ (hpre 0) x
  refine ⟨fun c => Cert.Experts.oArr (Cert.Experts.adm m hn) m c, ?_, ?_⟩
  · refine (θ_run _ _ _).mono (fun r h c => ⟨?_, h.1.args _ _ (Cert.Experts.pinned m hn) c⟩)
      (Cert.Experts.run_main_quiescent (Cert.Experts.adm m hn) m g (Cert.Experts.pinned m hn))
    exact ((h.1 c).1 (4 : Fin 5)).trans (Cert.Experts.final_4 (Cert.Experts.adm m hn) m (fun t => hn (ix1 t)) c)
  · refine (θ_run _ _ _).mono (fun r h c => ⟨(h c).1.trans ?_, (h c).2⟩) (Cert.Reference2Ideal.Experts.ref_run m' g')
    obtain ⟨e0, e1, e2, e3, e4, e5⟩ := hagree c
    rw [e0, e1, e2, e3, e4, e5]
    unfold Cert.Experts.oArr
    have t0 : Cert.Experts.T0 (Cert.Experts.adm m hn) = m ((c.tc : Thread Cert.Kernel2Ideal.nD Cert.Kernel2Ideal.τ).loc Cert.Kernel2Ideal.main_arg1) :=
      (Cert.Experts.pinned m hn c 0).symm
    have t1 : Cert.Experts.T1 (Cert.Experts.adm m hn) = m ((c.tc : Thread Cert.Kernel2Ideal.nD Cert.Kernel2Ideal.τ).loc Cert.Kernel2Ideal.main_arg2) :=
      (Cert.Experts.pinned m hn c 1).symm
    rw [t0, t1]

end Experts

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_experts_named.Gen.facts,
  fun m ρ _ => Cert.Kernel.Gen.frame m ρ, fun m ρ _ => Cert.KernelIdeal.Gen.frame m ρ, step_quiescent,
  experts_quiescent_bits, experts_quiescent, experts_ref_quiescent, experts_ref_quiescent_named,
  trivial, step_algebraic, trivial, experts_algebraic⟩

end Cert.Proof

end
